-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1x2048 : Shape := ⟨3, ![16, 1, 2048]⟩
abbrev S2048x16384 : Shape := ⟨2, ![2048, 16384]⟩
abbrev S16384 : Shape := ⟨1, ![16384]⟩
abbrev S16x1x16384 : Shape := ⟨3, ![16, 1, 16384]⟩
abbrev S_ : Shape := ⟨0, ![]⟩

class Facts : Prop where
  bitsLt_bf16_f32 : FTy.bits .bf16 < FTy.bits .f32
  bcast_S_S16x1x2048 : S_.BroadcastsInDim S16x1x2048 (![] : Fin 0 → Fin S16x1x2048.rank)
  reducesTo_S16x1x2048_S_d0_1_2 : S16x1x2048.ReducesTo [0, 1, 2] S_
  h_S_ : 0 < S_.numel

variable [Facts]

def fn {F : FTy → Type} [FloatOps F] (main_arg0 : FVec F S16x1x2048 .bf16) (main_arg1 : FVec F S2048x16384 .fp8e4m3) (main_arg2 : FVec F S16384 .f32) (main_arg3 : FVec F S16x1x16384 .bf16) : IVec S_ 1 :=
  let main_v0 : FVec F S16x1x2048 .f32 := (extf .f32 · bitsLt_bf16_f32) main_arg0
  let main_v1 : FVec F S16x1x2048 .f32 := Host.absf main_v0
  let main_cst : FVec F S_ .f32 := constant S_ .f32 0x7F7F0000#32
  let main_v2 : FVec F S16x1x2048 .f32 := broadcastInDim S16x1x2048 ![] bcast_S_S16x1x2048 main_cst
  let main_v3 : IVec S16x1x2048 1 := cmpf .ole main_v1 main_v2
  let main_c : IVec S_ 1 := constantI S_ 1 1#1
  let main_v4 : IVec S_ 1 := (fun x v => Host.reduce IntOp.andi x v reducesTo_S16x1x2048_S_d0_1_2 h_S_) main_v3 main_c
  main_v4
-- ==== Kernel.lean ====
abbrev S16x1x2048 : Shape := ⟨3, ![16, 1, 2048]⟩
abbrev S2048x16384 : Shape := ⟨2, ![2048, 16384]⟩
abbrev S16384 : Shape := ⟨1, ![16384]⟩
abbrev S16x1x16384 : Shape := ⟨3, ![16, 1, 16384]⟩
abbrev S16x2048 : Shape := ⟨2, ![16, 2048]⟩
abbrev S1x16384 : Shape := ⟨2, ![1, 16384]⟩
abbrev S16x16384 : Shape := ⟨2, ![16, 16384]⟩
abbrev S1x16 : Shape := ⟨2, ![1, 16]⟩
abbrev S2048x2048 : Shape := ⟨2, ![2048, 2048]⟩
abbrev S1x2048 : Shape := ⟨2, ![1, 2048]⟩
abbrev S32x2048 : Shape := ⟨2, ![32, 2048]⟩
abbrev S16x128 : Shape := ⟨2, ![16, 128]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x1x1 : Shape := ⟨3, ![16, 1, 1]⟩

abbrev nBuf : Space → Nat
  | .hbm => 13
  | .vmem => 13
  | .smem => 0
  | _ => 0

abbrev bufTy : (tb : Table) → Fin (tcTables nBuf tb) → BufTy
  | .hbm, ⟨0, _⟩ => ⟨S16x1x2048, .bf16⟩
  | .hbm, ⟨1, _⟩ => ⟨S2048x16384, .fp8e4m3⟩
  | .hbm, ⟨2, _⟩ => ⟨S16384, .f32⟩
  | .hbm, ⟨3, _⟩ => ⟨S16x1x16384, .bf16⟩
  | .hbm, ⟨4, _⟩ => ⟨S16x2048, .bf16⟩
  | .hbm, ⟨5, _⟩ => ⟨S1x16384, .f32⟩
  | .hbm, ⟨6, _⟩ => ⟨S16x16384, .bf16⟩
  | .hbm, ⟨7, _⟩ => ⟨S16x16384, .bf16⟩
  | .hbm, ⟨8, _⟩ => ⟨S16x2048, .fp8e4m3⟩
  | .hbm, ⟨9, _⟩ => ⟨S1x16, .f32⟩
  | .hbm, ⟨10, _⟩ => ⟨S16x1x16384, .bf16⟩
  | .hbm, ⟨11, _⟩ => ⟨S16x1x2048, .fp8e4m3⟩
  | .hbm, ⟨12, _⟩ => ⟨S16x1x1, .f32⟩
  | .local _ .vmem, ⟨0, _⟩ => ⟨S16x2048, .bf16⟩
  | .local _ .vmem, ⟨1, _⟩ => ⟨S2048x2048, .fp8e4m3⟩
  | .local _ .vmem, ⟨2, _⟩ => ⟨S2048x2048, .fp8e4m3⟩
  | .local _ .vmem, ⟨3, _⟩ => ⟨S1x2048, .f32⟩
  | .local _ .vmem, ⟨4, _⟩ => ⟨S1x2048, .f32⟩
  | .local _ .vmem, ⟨5, _⟩ => ⟨S16x2048, .bf16⟩
  | .local _ .vmem, ⟨6, _⟩ => ⟨S16x2048, .bf16⟩
  | .local _ .vmem, ⟨7, _⟩ => ⟨S16x2048, .bf16⟩
  | .local _ .vmem, ⟨8, _⟩ => ⟨S16x2048, .bf16⟩
  | .local _ .vmem, ⟨9, _⟩ => ⟨S16x2048, .fp8e4m3⟩
  | .local _ .vmem, ⟨10, _⟩ => ⟨S1x16, .f32⟩
  | .local _ .vmem, ⟨11, _⟩ => ⟨S32x2048, .fp8e4m3⟩
  | .local _ .vmem, ⟨12, _⟩ => ⟨S16x128, .f32⟩
  | _, _ => ⟨S16x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x1x2048 : Shape := ⟨3, ![16, 1, 2048]⟩
abbrev S2048x16384 : Shape := ⟨2, ![2048, 16384]⟩
abbrev S16384 : Shape := ⟨1, ![16384]⟩
abbrev S16x1x16384 : Shape := ⟨3, ![16, 1, 16384]⟩
abbrev S16x2048 : Shape := ⟨2, ![16, 2048]⟩
abbrev S1x16384 : Shape := ⟨2, ![1, 16384]⟩
abbrev S16x16384 : Shape := ⟨2, ![16, 16384]⟩
abbrev S16x1 : Shape := ⟨2, ![16, 1]⟩
abbrev S16 : Shape := ⟨1, ![16]⟩
abbrev S16x1x1 : Shape := ⟨3, ![16, 1, 1]⟩

abbrev nBuf : Space → Nat
  | .hbm => 13
  | .vmem => 7
  | .smem => 0
  | _ => 0

abbrev bufTy : (tb : Table) → Fin (tcTables nBuf tb) → BufTy
  | .hbm, ⟨0, _⟩ => ⟨S16x1x2048, .bf16⟩
  | .hbm, ⟨1, _⟩ => ⟨S2048x16384, .fp8e4m3⟩
  | .hbm, ⟨2, _⟩ => ⟨S16384, .f32⟩
  | .hbm, ⟨3, _⟩ => ⟨S16x1x16384, .bf16⟩
  | .hbm, ⟨4, _⟩ => ⟨S16x2048, .bf16⟩
  | .hbm, ⟨5, _⟩ => ⟨S1x16384, .f32⟩
  | .hbm, ⟨6, _⟩ => ⟨S16x16384, .bf16⟩
  | .hbm, ⟨7, _⟩ => ⟨S16x16384, .bf16⟩
  | .hbm, ⟨8, _⟩ => ⟨S16x2048, .fp8e4m3⟩
  | .hbm, ⟨9, _⟩ => ⟨S16x1, .f32⟩
  | .hbm, ⟨10, _⟩ => ⟨S16x1x16384, .bf16⟩
  | .hbm, ⟨11, _⟩ => ⟨S16x1x2048, .fp8e4m3⟩
  | .hbm, ⟨12, _⟩ => ⟨S16x1x1, .f32⟩
  | .local _ .vmem, ⟨0, _⟩ => ⟨S16x2048, .bf16⟩
  | .local _ .vmem, ⟨1, _⟩ => ⟨S2048x16384, .fp8e4m3⟩
  | .local _ .vmem, ⟨2, _⟩ => ⟨S1x16384, .f32⟩
  | .local _ .vmem, ⟨3, _⟩ => ⟨S16x16384, .bf16⟩
  | .local _ .vmem, ⟨4, _⟩ => ⟨S16x16384, .bf16⟩
  | .local _ .vmem, ⟨5, _⟩ => ⟨S16x2048, .fp8e4m3⟩
  | .local _ .vmem, ⟨6, _⟩ => ⟨S16x1, .f32⟩
  | _, _ => ⟨S16x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/- The power of two of a row, computed twice: by the kernel's search over exponent words, and by the
   reference's logarithm. Both are functions of one extended real here; no program occurs in this module. -/
module

public import Idealize.ShloMosaic.PureOps.Ideal
public import Idealize.ShloMosaic.PureOps.Ideal.Laws
public import Idealize.ShloMosaic.PureOps.Vector

@[expose] public section

noncomputable section

namespace Cert.Scale

open Idealize.ShloMosaic

/-! ## What the kernel computes -/

/-- The float whose exponent field is the integer `n`: `n` shifted into place and read as a float. -/
def word (n : BitVec 32) : EReal := Ideal.ofBits .f32 (IntOp.shli .vector n 23#32)

/-- One step of the kernel's search: take the step `s` where the float of the larger word is still at most `a`. -/
def step (a : EReal) (n s : BitVec 32) : BitVec 32 :=
  Scalar.select (Ideal.cmp .oge a (word (IntOp.addi n s))) (IntOp.addi n s) n

/-- The first five steps of the search. -/
def search5 (a : EReal) : BitVec 32 := step a (step a (step a (step a (step a 0#32 128#32) 64#32) 32#32) 16#32) 8#32

/-- The whole search: the exponent field of `a`. -/
def search (a : EReal) : BitVec 32 := step a (step a (step a (search5 a) 4#32) 2#32) 1#32

/-- The kernel's exponent of a row with maximum `x` and magnitude `a`. -/
def kexp (x a : EReal) : BitVec 32 :=
  Scalar.select (Ideal.cmp .oeq x (Ideal.ofBits .f32 0x00000000#32)) 0#32
    (Scalar.select (IntOp.ori (IntOp.cmpi .eq (search a) 0#32) (IntOp.cmpi .eq (search a) 255#32)) 0#32
      (IntOp.subi (search a) 126#32))

/-- The kernel's power of two with exponent `e`. -/
def kpow (e : BitVec 32) : EReal := word (IntOp.minsi 255#32 (IntOp.maxsi 0#32 (IntOp.addi e 127#32)))

/-! ## What the reference computes -/

/-- The reference's exponent of a row of magnitude `a`. -/
def rexp (a : EReal) : EReal :=
  Scalar.select (Ideal.cmp .olt a (Ideal.ofBits .f32 0x00800000#32)) (Ideal.ofBits .f32 0x00000000#32)
    (Ideal.liftRound Int.floor (Ideal.div (Ideal.log a) (Ideal.log (Ideal.ofBits .f32 0x40000000#32)))
      + Ideal.ofBits .f32 0x3F800000#32)

/-! ## The words -/

theorem field (t : Fin 256) :
    ((BitVec.ofNat 32 t.val <<< (23#32)).extractLsb' 31 1 == 1#1) = false
      ∧ ((BitVec.ofNat 32 t.val <<< (23#32)).extractLsb' 23 8).toNat = t.val
      ∧ ((BitVec.ofNat 32 t.val <<< (23#32)).extractLsb' 0 23).toNat = 0 := by
  revert t; decide +kernel

/-- A word between the zero word and the infinite one is its power of two. -/
theorem word_mid {t : ℕ} (h1 : 1 ≤ t) (h2 : t ≤ 254) :
    word (BitVec.ofNat 32 t) = (((2 : ℝ) ^ ((t : ℤ) - 127) : ℝ) : EReal) := by
  obtain ⟨h, h', h''⟩ := field ⟨t, by omega⟩
  have e : word (BitVec.ofNat 32 t) = Ideal.ieee 8 23 (BitVec.ofNat 32 t <<< (23#32)) := rfl
  rw [e]
  unfold Ideal.ieee
  simp only [h, h', h'']
  rw [if_neg (by norm_num; omega), if_neg (by omega)]
  refine congrArg (fun r : ℝ => (r : EReal)) ?_
  have : (2 : ℝ) ^ ((t : ℤ) - 127) = 2 ^ (23 : ℤ) * 2 ^ ((t : ℤ) - 127 - 23) := by
    rw [← zpow_add₀ (by norm_num), show 23 + ((t : ℤ) - 127 - 23) = (t : ℤ) - 127 by ring]
  rw [this]; norm_num

/-- The last word is infinite. -/
theorem word_top : word 255#32 = ⊤ := by
  obtain ⟨h, h', h''⟩ := field ⟨255, by omega⟩
  have e : word 255#32 = Ideal.ieee 8 23 (BitVec.ofNat 32 255 <<< (23#32)) := rfl
  rw [e]
  unfold Ideal.ieee
  simp only [h, h', h'']
  norm_num

theorem ofBits_two : Ideal.ofBits .f32 0x40000000#32 = ((2 : ℝ) : EReal) := by
  simp [Ideal.ofBits, Ideal.ieee, -EReal.coe_mul]; norm_num

theorem ofBits_tiny : Ideal.ofBits .f32 0x00800000#32 = (((2 : ℝ) ^ (-126 : ℤ) : ℝ) : EReal) := by
  have := word_mid (t := 1) (by omega) (by omega)
  norm_num at this
  have e : Ideal.ofBits .f32 0x00800000#32 = word 1#32 := rfl
  rw [e, this]; norm_num

theorem ofBits_one : Ideal.ofBits .f32 0x3F800000#32 = ((1 : ℝ) : EReal) := by
  simp [Ideal.ofBits, Ideal.ieee, -EReal.coe_mul]; norm_num

/-! ## The search finds the exponent field -/

/-- `E` is the exponent field of `a`: exactly the words up to `E` are at most `a`. -/
def IsField (a : EReal) (E : ℕ) : Prop :=
  E ≤ 254 ∧ ∀ t : ℕ, 1 ≤ t → t ≤ 255 → (word (BitVec.ofNat 32 t) ≤ a ↔ t ≤ E)

theorem step_eq {a : EReal} {E : ℕ} (h : IsField a E) {n s : ℕ} (hs : 1 ≤ s) (h2 : n + 2 * s ≤ 256) :
    step a (BitVec.ofNat 32 n) (BitVec.ofNat 32 s) = BitVec.ofNat 32 (if n + s ≤ E then n + s else n) := by
  have hadd : IntOp.addi (BitVec.ofNat 32 n) (BitVec.ofNat 32 s) = BitVec.ofNat 32 (n + s) := by
    show BitVec.ofNat 32 n + BitVec.ofNat 32 s = _
    rw [BitVec.ofNat_add]
  unfold step
  rw [hadd]
  have hiff := h.2 (n + s) (by omega) (by omega)
  by_cases hE : n + s ≤ E
  · simp [Ideal.cmp, Scalar.select, hiff.2 hE, hE]
  · have : ¬ word (BitVec.ofNat 32 (n + s)) ≤ a := fun hh => hE (hiff.1 hh)
    simp [Ideal.cmp, Scalar.select, this, hE]

/-- One step keeps `E` in a window half as wide. -/
theorem step_window {a : EReal} {E : ℕ} (h : IsField a E) {n : ℕ} (s : ℕ) (hs : 1 ≤ s) (h2 : n + 2 * s ≤ 256)
    (hn : n ≤ E) (hE : E < n + 2 * s) :
    ∃ n', step a (BitVec.ofNat 32 n) (BitVec.ofNat 32 s) = BitVec.ofNat 32 n' ∧ n' ≤ E ∧ E < n' + s ∧ n' + s ≤ 256 := by
  refine ⟨_, step_eq h hs h2, ?_⟩
  split <;> omega

theorem search_eq {a : EReal} {E : ℕ} (h : IsField a E) : search a = BitVec.ofNat 32 E := by
  have hE := h.1
  obtain ⟨n1, e1, a1, b1, c1⟩ := step_window h (n := 0) 128 (by omega) (by omega) (by omega) (by omega)
  obtain ⟨n2, e2, a2, b2, c2⟩ := step_window h (n := n1) 64 (by omega) (by omega) (by omega) (by omega)
  obtain ⟨n3, e3, a3, b3, c3⟩ := step_window h (n := n2) 32 (by omega) (by omega) (by omega) (by omega)
  obtain ⟨n4, e4, a4, b4, c4⟩ := step_window h (n := n3) 16 (by omega) (by omega) (by omega) (by omega)
  obtain ⟨n5, e5, a5, b5, c5⟩ := step_window h (n := n4) 8 (by omega) (by omega) (by omega) (by omega)
  obtain ⟨n6, e6, a6, b6, c6⟩ := step_window h (n := n5) 4 (by omega) (by omega) (by omega) (by omega)
  obtain ⟨n7, e7, a7, b7, c7⟩ := step_window h (n := n6) 2 (by omega) (by omega) (by omega) (by omega)
  obtain ⟨n8, e8, a8, b8, c8⟩ := step_window h (n := n7) 1 (by omega) (by omega) (by omega) (by omega)
  unfold search search5
  rw [e1, e2, e3, e4, e5, e6, e7, e8]
  congr 1; omega

/-- The exponent field of a real below the smallest normal number is zero. -/
theorem isField_small {r : ℝ} (h : r < (2 : ℝ) ^ (-126 : ℤ)) : IsField (r : EReal) 0 := by
  refine ⟨by omega, fun t h1 h2 => ?_⟩
  constructor
  · intro hh
    exfalso
    by_cases h3 : t ≤ 254
    · rw [word_mid h1 h3, EReal.coe_le_coe_iff] at hh
      have : (2 : ℝ) ^ (-126 : ℤ) ≤ (2 : ℝ) ^ ((t : ℤ) - 127) := zpow_le_zpow_right₀ (by norm_num) (by omega)
      linarith
    · obtain rfl : t = 255 := by omega
      rw [word_top] at hh
      exact absurd hh (by simp)
  · intro hh; omega

/-- The exponent field of a real with `2^(E-127) ≤ r < 2^(E-126)` is `E`. -/
theorem isField_mid {r : ℝ} {E : ℕ} (hE : E ≤ 254) (h : (2 : ℝ) ^ ((E : ℤ) - 127) ≤ r)
    (h' : r < (2 : ℝ) ^ ((E : ℤ) - 126)) : IsField (r : EReal) E := by
  refine ⟨hE, fun t h1 h2 => ?_⟩
  constructor
  · intro hh
    by_contra hlt
    by_cases h3 : t ≤ 254
    · rw [word_mid h1 h3, EReal.coe_le_coe_iff] at hh
      have : (2 : ℝ) ^ ((E : ℤ) - 126) ≤ (2 : ℝ) ^ ((t : ℤ) - 127) := zpow_le_zpow_right₀ (by norm_num) (by omega)
      linarith
    · obtain rfl : t = 255 := by omega
      rw [word_top] at hh
      exact absurd hh (by simp)
  · intro hh
    rw [word_mid h1 (by omega), EReal.coe_le_coe_iff]
    exact (zpow_le_zpow_right₀ (by norm_num) (by omega)).trans h

/-! ## The two powers of two agree -/

theorem kpow_zero : kpow 0#32 = 1 := by
  have e : kpow 0#32 = word (BitVec.ofNat 32 127) := rfl
  rw [e, word_mid (by omega) (by omega)]; norm_num

theorem words (E : Fin 247) (h : 1 ≤ E.val) :
    IntOp.ori (IntOp.cmpi .eq (BitVec.ofNat 32 E.val) 0#32) (IntOp.cmpi .eq (BitVec.ofNat 32 E.val) 255#32) = 0#1
      ∧ IntOp.minsi 255#32 (IntOp.maxsi 0#32 (IntOp.addi (IntOp.subi (BitVec.ofNat 32 E.val) 126#32) 127#32))
        = BitVec.ofNat 32 (E.val + 1)
      ∧ IntOp.minsi 255#32 (IntOp.maxsi 0#32
          (IntOp.addi (IntOp.subi 0#32 (IntOp.subi (BitVec.ofNat 32 E.val) 126#32)) 127#32))
        = BitVec.ofNat 32 (253 - E.val) := by
  revert E; decide +kernel

theorem exp2_int (k : ℤ) : Ideal.exp2 (((k : ℝ) : ℝ) : EReal) = (((2 : ℝ) ^ k : ℝ) : EReal) := by
  rw [Ideal.exp2_coe]
  exact congrArg (fun r : ℝ => (r : EReal)) (Real.rpow_intCast 2 k)

/-- The reference's exponent of a real with `2^k ≤ r`, `k ≥ -126`, is an integer one above its binary logarithm's floor. -/
theorem rexp_mid {r : ℝ} {k : ℤ} (hk : -126 ≤ k) (h : (2 : ℝ) ^ k ≤ r) (h' : r < (2 : ℝ) ^ (k + 1)) :
    rexp (r : EReal) = (((k + 1 : ℤ) : ℝ) : EReal) := by
  have hpos : 0 < r := lt_of_lt_of_le (by positivity) h
  have h126 : (2 : ℝ) ^ (-126 : ℤ) ≤ r := (zpow_le_zpow_right₀ (by norm_num) hk).trans h
  have hlog : ⌊Real.log r / Real.log 2⌋ = k := by
    rw [Int.floor_eq_iff]
    have h2 : (0 : ℝ) < Real.log 2 := Real.log_pos (by norm_num)
    constructor
    · rw [le_div_iff₀ h2, ← Real.log_zpow]
      exact Real.log_le_log (by positivity) h
    · rw [div_lt_iff₀ h2]
      have : ((k : ℝ) + 1) = ((k + 1 : ℤ) : ℝ) := by push_cast; ring
      rw [this, ← Real.log_zpow]
      exact Real.log_lt_log hpos h'
  have hl2 : Real.log 2 ≠ 0 := ne_of_gt (Real.log_pos (by norm_num))
  unfold rexp
  rw [ofBits_tiny, ofBits_two, ofBits_one, Ideal.log_coe, Ideal.log_coe, if_neg (not_le.2 hpos), if_neg (by norm_num)]
  have hc : Ideal.cmp .olt (r : EReal) (((2 : ℝ) ^ (-126 : ℤ) : ℝ) : EReal) = 0#1 := by
    have : ¬ (r : EReal) < (((2 : ℝ) ^ (-126 : ℤ) : ℝ) : EReal) := by
      rw [EReal.coe_lt_coe_iff]; exact not_lt.2 h126
    exact congrArg BitVec.ofBool (decide_eq_false this)
  rw [hc]
  have hd : Ideal.div ((Real.log r : ℝ) : EReal) ((Real.log 2 : ℝ) : EReal) = ((Real.log r / Real.log 2 : ℝ) : EReal) := by
    unfold Ideal.div
    rw [if_neg (by rw [EReal.coe_eq_zero]; exact hl2), div_eq_mul_inv, EReal.coe_mul, EReal.coe_inv]
  rw [hd, Ideal.liftRound_coe, hlog]
  simp only [Scalar.select]
  rw [if_neg (by decide), ← EReal.coe_add]
  push_cast; rfl

theorem rexp_small {r : ℝ} (h : r < (2 : ℝ) ^ (-126 : ℤ)) : rexp (r : EReal) = 0 := by
  unfold rexp
  rw [ofBits_tiny]
  have hc : Ideal.cmp .olt (r : EReal) (((2 : ℝ) ^ (-126 : ℤ) : ℝ) : EReal) = 1#1 := by
    have : (r : EReal) < (((2 : ℝ) ^ (-126 : ℤ) : ℝ) : EReal) := by
      rw [EReal.coe_lt_coe_iff]; exact h
    exact congrArg BitVec.ofBool (decide_eq_true this)
  rw [hc]
  simp [Scalar.select]

theorem exp2_zero : Ideal.exp2 (0 : EReal) = 1 := by
  have := exp2_int 0
  simpa using this

/-- For a row magnitude `r < 2^120`, which is zero where the row's maximum `x` is zero, the kernel's scale and
    inverse scale are the reference's. -/
theorem scales {x : EReal} {r : ℝ} (hx : x = 0 → r = 0) (h : r < (2 : ℝ) ^ (120 : ℤ)) :
    kpow (kexp x (r : EReal)) = Ideal.exp2 (rexp (r : EReal))
      ∧ kpow (IntOp.subi 0#32 (kexp x (r : EReal))) = Ideal.exp2 (0 - rexp (r : EReal)) := by
  by_cases hs : r < (2 : ℝ) ^ (-126 : ℤ)
  · have hk : kexp x (r : EReal) = 0#32 := by
      unfold kexp
      rw [search_eq (isField_small hs)]
      have e : Scalar.select (IntOp.ori (IntOp.cmpi .eq (BitVec.ofNat 32 0) 0#32) (IntOp.cmpi .eq (BitVec.ofNat 32 0) 255#32))
          0#32 (IntOp.subi (BitVec.ofNat 32 0) 126#32) = 0#32 := by decide
      rw [e]
      simp [Scalar.select]
    rw [hk, rexp_small hs]
    have e : IntOp.subi 0#32 0#32 = 0#32 := by decide
    rw [e, kpow_zero, sub_zero, exp2_zero]
    exact ⟨rfl, rfl⟩
  · have hs' := not_lt.1 hs
    have hpos : 0 < r := lt_of_lt_of_le (by positivity) hs'
    obtain ⟨k, l1, l2⟩ := exists_mem_Ico_zpow hpos (by norm_num : (1 : ℝ) < 2)
    have k1 : -126 ≤ k := by
      have := (zpow_lt_zpow_iff_right₀ (by norm_num : (1 : ℝ) < 2)).1 (hs'.trans_lt l2)
      omega
    have k2 : k < 120 := (zpow_lt_zpow_iff_right₀ (by norm_num : (1 : ℝ) < 2)).1 (l1.trans_lt h)
    obtain ⟨E, hE⟩ : ∃ E : ℕ, (E : ℤ) = k + 127 := ⟨(k + 127).toNat, by omega⟩
    have hf : IsField (r : EReal) E := isField_mid (by omega)
      (by rw [hE]; simpa using l1) (by rw [hE, show k + 127 - 126 = k + 1 by ring]; exact l2)
    obtain ⟨w1, w2, w3⟩ := words ⟨E, by omega⟩ (show 1 ≤ E by omega)
    dsimp only at w1 w2 w3
    have hx0 : x ≠ 0 := fun hh => absurd (hx hh) (ne_of_gt hpos)
    have hk : kexp x (r : EReal) = IntOp.subi (BitVec.ofNat 32 E) 126#32 := by
      unfold kexp
      rw [search_eq hf, w1]
      simp [Scalar.select, Ideal.cmp, hx0]
    rw [hk, rexp_mid k1 l1 l2]
    have hneg : (0 : EReal) - (((k + 1 : ℤ) : ℝ) : EReal) = (((-(k + 1) : ℤ) : ℝ) : EReal) := by
      rw [zero_sub, ← EReal.coe_neg]; push_cast; rfl
    rw [hneg, exp2_int, exp2_int]
    unfold kpow
    rw [w2, w3]
    constructor
    · rw [word_mid (by omega) (by omega)]
      exact congrArg (fun j : ℤ => (((2 : ℝ) ^ j : ℝ) : EReal)) (by omega)
    · rw [word_mid (by omega) (by omega)]
      exact congrArg (fun j : ℤ => (((2 : ℝ) ^ j : ℝ) : EReal)) (by omega)

end Cert.Scale
-- ==== Proof.Run.lean ====
/- One run of the body on its staging buffers, at point 0 (which quantises) and at a later point (which only multiplies):
   what it stores, as named functions of what it loads. -/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.TableIdle
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body quantises: the grid coordinate is zero. -/
abbrev cond0_0 (i : grid0.Coords) : Prop := k0_cond1 i = 1#1

/-- Each row's exponent. -/
def expo (x : Vec F S16x2048 .bf16) : IVec S16x1 32 := k0_pay6 (k0_pay3 x) (k0_pay4 x) (k0_pay5 x)
/-- Each row's scale. -/
def scl (x : Vec F S16x2048 .bf16) : FVec F S16x1 .f32 := k0_pay7 (k0_pay3 x) (k0_pay4 x) (k0_pay5 x)
/-- The codes. -/
def codes (x : Vec F S16x2048 .bf16) : FVec F S16x2048 .fp8e4m3 := k0_pay9 (k0_pay2 x) (expo x) 0#32
/-- The codes over sixteen rows of zeros. -/
def lhs (x : Vec F S16x2048 .bf16) : FVec F S32x2048 .fp8e4m3 := k0_pay10 (k0_pay2 x) (expo x) 0#32
/-- The scales along the lanes. -/
def rows (x : Vec F S16x2048 .bf16) : FVec F S16x128 .f32 := k0_pay11 (scl x)
/-- The scales as one row. -/
def sclRow (x : Vec F S16x2048 .bf16) : FVec F S1x16 .f32 := k0_pay12 (scl x)

/-- A view stored whole holds what was stored, whatever was stored before. -/
theorem read_store {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  funext fun y => View.read_writes_cons_unit_of_mem v f inb w L y y h fun a => (Nat.zero_add _).symm

/-- A whole load reads what the memref holds. -/
theorem load_whole {κ : Kind} {sp : Space} {S : Shape} {e : EltTy} (v : Memref sig κ sp S e) (hv : v.IsWhole)
    {off : Fin S.rank → ℕ} (h : off = fun _ => 0) (inb : ∀ a, off a + S.size a ≤ S.size a) (w : S.Idx → Elt F e) :
    View.readAt (Elt F) v.view (Rect.unit off S.size inb).toLoadRect (hv.unread w) = w := by
  rw [View.readAt_eq_ld, hv.read_unread, View.ld_unit_zero h]

/-- A load through a box reads the box of what the memref holds. -/
theorem load_part {κ : Kind} {sp : Space} {S : Shape} {e : EltTy} (v : Memref sig κ sp S e) (hv : v.IsWhole)
    (r : Rect S) (w : S.Idx → Elt F e) :
    View.readAt (Elt F) v.view r.toLoadRect (hv.unread w) = View.ld w r := by
  rw [View.readAt_eq_ld, hv.read_unread]

/-- A whole store covers every index. -/
theorem cov_store {S : Shape} {e : EltTy} {off : Fin S.rank → ℕ} (h : off = fun _ => 0)
    (inb : ∀ a, off a + S.size a ≤ S.size a) (w : S.Idx → Elt F e) (y : S.Idx) :
    ∃ p ∈ [(⟨Rect.unit off S.size inb, w⟩ : View.Piece (Elt F) S e)], y ∈ p.1.set :=
  ⟨_, List.mem_singleton_self _, by
    subst h; show y ∈ (Rect.whole S).set; rw [Rect.set_whole]; exact Finset.mem_univ y⟩

theorem hz2 : (![0, 0] : Fin 2 → ℕ) = fun _ => 0 := by decide

set_option maxHeartbeats 1000000 in
/-- A later point: it reads the scratches and stores the block of y only. -/
theorem run_B (c : Dev nD) (i : grid0.Coords) (arg1 : Memref sig .tc .vmem S16x2048 .bf16) (harg1 : arg1.IsWhole) (arg2 : Memref sig .tc .vmem S2048x2048 .fp8e4m3) (harg2 : arg2.IsWhole) (arg3 : Memref sig .tc .vmem S1x2048 .f32) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .fp8e4m3) (harg6 : arg6.IsWhole) (arg7 : Memref sig .tc .vmem S1x16 .f32) (harg7 : arg7.IsWhole) (arg8 : Memref sig .tc .vmem S32x2048 .fp8e4m3) (harg8 : arg8.IsWhole) (arg9 : Memref sig .tc .vmem S16x128 .f32) (harg9 : arg9.IsWhole) (hc0 : ¬cond0_0 i)
    (x0 : Vec F S16x2048 .bf16) (x1 : Vec F S2048x2048 .fp8e4m3) (x2 : Vec F S1x2048 .f32) (x3 : Vec F S16x2048 .bf16)
    (l : Vec F S32x2048 .fp8e4m3) (r : Vec F S16x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare l ∗ owns (c : Thread nD τ) arg9 fullShare r
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (k0_pay1 l x1 (View.ld (Val := Elt F) (S := S16x128) r (Rect.unit (s := S16x128) ![0, 0] S16x1.size inb_S16x128_S16x1_0_0)) x2 x3)
                ∗ owns (c : Thread nD τ) arg8 fullShare l ∗ owns (c : Thread nD τ) arg9 fullShare r) -∗ K ⟨⟩))
          ⊢ wp frame (wpE (defs₀ (F := F)) Variants.none c none) E (cc0_out_proj_fp8 i arg1 harg1 arg2 harg2 arg3 harg3 arg4 harg4 arg5 harg5 arg6 harg6 arg7 harg7 arg8 harg8 arg9 harg9) K := by
    simp only [cc0_out_proj_fp8_eq_skeleton]; unfold cc0_out_proj_fp8_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
    obtain rfl := harg1.eq_unread hf0; obtain rfl := harg2.eq_unread hf1; obtain rfl := harg3.eq_unread hf2; obtain rfl := harg4.eq_unread hf3
    obtain rfl := harg8.eq_unread hs0; obtain rfl := harg9.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; refine (read_store _ _ hz2 _ _ _).trans ?_
      rw [load_whole arg8 harg8 hz2, load_whole arg2 harg2 hz2, load_whole arg3 harg3 hz2, load_whole arg4 harg4 hz2, load_part arg9 harg9]
    isplitl [HS0]
    · iexists _; isplitr; swap; · iexact HS0
      ipureintro; exact harg8.read_unread _
    iexists _; isplitr; swap; · iexact HS1
    ipureintro; exact harg9.read_unread _

set_option maxHeartbeats 2000000 in
/-- Point 0: it stores the codes, the scales and both scratches, then the block of y. -/
theorem run_A (c : Dev nD) (i : grid0.Coords) (arg1 : Memref sig .tc .vmem S16x2048 .bf16) (harg1 : arg1.IsWhole) (arg2 : Memref sig .tc .vmem S2048x2048 .fp8e4m3) (harg2 : arg2.IsWhole) (arg3 : Memref sig .tc .vmem S1x2048 .f32) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .fp8e4m3) (harg6 : arg6.IsWhole) (arg7 : Memref sig .tc .vmem S1x16 .f32) (harg7 : arg7.IsWhole) (arg8 : Memref sig .tc .vmem S32x2048 .fp8e4m3) (harg8 : arg8.IsWhole) (arg9 : Memref sig .tc .vmem S16x128 .f32) (harg9 : arg9.IsWhole) (hc0 : cond0_0 i)
    (x0 : Vec F S16x2048 .bf16) (x1 : Vec F S2048x2048 .fp8e4m3) (x2 : Vec F S1x2048 .f32) (x3 : Vec F S16x2048 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (k0_pay1 (lhs x0) x1 (View.ld (Val := Elt F) (S := S16x128) (e' := .f32) (rows x0) (Rect.unit (s := S16x128) ![0, 0] S16x1.size inb_S16x128_S16x1_0_0)) x2 x3)
                ∗ owns (c : Thread nD τ) arg6 fullShare (codes x0) ∗ owns (c : Thread nD τ) arg7 fullShare (sclRow x0)
                ∗ owns (c : Thread nD τ) arg8 fullShare (lhs x0) ∗ owns (c : Thread nD τ) arg9 fullShare (rows x0)) -∗ K ⟨⟩))
          ⊢ wp frame (wpE (defs₀ (F := F)) Variants.none c none) E (cc0_out_proj_fp8 i arg1 harg1 arg2 harg2 arg3 harg3 arg4 harg4 arg5 harg5 arg6 harg6 arg7 harg7 arg8 harg8 arg9 harg9) K := by
    simp only [cc0_out_proj_fp8_eq_skeleton]; unfold cc0_out_proj_fp8_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; refine (read_store _ _ hz2 _ _ _).trans ?_
      delta run_A.sl.v3 run_A.sl.v7; delta run_A.sl.HS0_1 run_A.sl.HS1_1
      try delta run_A.sl.r_6
      try delta run_A.sl.r_5
      try delta run_A.sl.r_4
      try delta run_A.sl.r_3
      try delta run_A.sl.r_2
      try delta run_A.sl.r_1
      try delta run_A.sl.r
      rw [load_whole arg1 harg1 hz2, load_whole arg2 harg2 hz2, load_whole arg3 harg3 hz2, load_whole arg4 harg4 hz2,
        View.readCov_unit_zero _ hz2, View.readCov_eq_canon_ld _ _ _ (cov_store hz2 _ _), View.canon_unit_zero hz2]
      unfold lhs rows expo scl; rfl
    isplitl [H5]
    · iexists _; isplitr; swap; · iexact H5
      ipureintro; refine (read_store _ _ hz2 _ _ _).trans ?_
      try delta run_A.sl.r_6
      try delta run_A.sl.r_5
      try delta run_A.sl.r_4
      try delta run_A.sl.r_3
      try delta run_A.sl.r_2
      try delta run_A.sl.r_1
      try delta run_A.sl.r
      rw [load_whole arg1 harg1 hz2]; unfold codes expo; rfl
    isplitl [H6]
    · iexists _; isplitr; swap; · iexact H6
      ipureintro; refine (read_store _ _ hz2 _ _ _).trans ?_
      try delta run_A.sl.r_6
      try delta run_A.sl.r_5
      try delta run_A.sl.r_4
      try delta run_A.sl.r_3
      try delta run_A.sl.r_2
      try delta run_A.sl.r_1
      try delta run_A.sl.r
      rw [load_whole arg1 harg1 hz2]; unfold sclRow scl; rfl
    isplitl [HS0]
    · iexists _; isplitr; swap; · iexact HS0
      ipureintro; refine (read_store _ _ hz2 _ _ _).trans ?_
      try delta run_A.sl.r_6
      try delta run_A.sl.r_5
      try delta run_A.sl.r_4
      try delta run_A.sl.r_3
      try delta run_A.sl.r_2
      try delta run_A.sl.r_1
      try delta run_A.sl.r
      rw [load_whole arg1 harg1 hz2]; unfold lhs expo; rfl
    iexists _; isplitr; swap; · iexact HS1
    ipureintro; refine (read_store _ _ hz2 _ _ _).trans ?_
    try delta run_A.sl.r_6
    try delta run_A.sl.r_5
    try delta run_A.sl.r_4
    try delta run_A.sl.r_3
    try delta run_A.sl.r_2
    try delta run_A.sl.r_1
    try delta run_A.sl.r
    rw [load_whole arg1 harg1 hz2]; unfold rows scl; rfl

end Cert.KernelIdeal.Gen
-- ==== Proof.Body.lean ====
/-
  THE RUN OF THE PIPELINE. At point 0 the body quantises the rows of x: it leaves the codes and the scales in two
  scratches and in the two result windows that stay in place over all points. At a later point it reads the scratches
  only. So from point 1 on the invariant holds both scratches at the codes and scales of x, and the two result windows
  hold what point 0 stored until the last point writes them back.
-/
module

public import proofs.«01_k».proof.Proof.Run
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body quantises at point 0 alone. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The codes' and the scales' windows are idle after point 0. -/
theorem idle0_5 (t : Fin cfg0.N) : cfg0.idle 5 (grid0.coords t) = !decide (cond0_0 (grid0.coords t)) := by
  show (!(k0_cond1 (grid0.coords t) == 1#1)) = _
  by_cases h : k0_cond1 (grid0.coords t) = 1#1 <;> simp [cond0_0, h]
theorem idle0_6 (t : Fin cfg0.N) : cfg0.idle 6 (grid0.coords t) = !decide (cond0_0 (grid0.coords t)) := idle0_5 t
theorem liveAt0_4 : ∀ t : Fin cfg0.N, cfg0.idle 4 (grid0.coords t) = false := fun _ => rfl

theorem isFresh (n : ℕ) (w : Fin cfg0.W) (hi : ∀ t : Fin cfg0.N, cfg0.idle w (grid0.coords t) = !decide (cond0_0 (grid0.coords t)))
    (hf : ∀ t : Fin cfg0.N, (cfg0.win w).flush t = true ↔ t.val % 8 = 7) (hn : n ≤ cfg0.N) :
    cfg0.fresh w n = decide (n % 8 = 0) := by
  refine Cfg.fresh_tab cfg0 w (fun n => decide (n % 8 = 0)) rfl (fun t => ?_) n hn
  have hN : t.val < 8 := lt_of_lt_of_eq t.isLt (show cfg0.N = 8 from N_0)
  rw [show cfg0.idle w (cfg0.grid.coords t) = _ from hi t, show decide (cond0_0 (grid0.coords t)) = decide (t.val % 8 = 0) from decide_eq_decide.mpr (hcond0_0 t),
    show (cfg0.win w).flush t = decide (t.val % 8 = 7) from by rw [Bool.eq_iff_iff, hf t, decide_eq_true_iff]]
  rw [Bool.eq_iff_iff]; simp; omega

/-- Each window's current staging memref at point `t`, and the two scratches. -/
abbrev ms0_0 (t : Fin cfg0.N) : Memref sig .tc .vmem S16x2048 .bf16 := win0_0.stage (cfg0.slots t 0)
abbrev ms0_1 (t : Fin cfg0.N) : Memref sig .tc .vmem S2048x2048 .fp8e4m3 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S16x2048 .bf16 := win0_3.stage (cfg0.slots t 3)
abbrev ms0_4 (t : Fin cfg0.N) : Memref sig .tc .vmem S16x2048 .bf16 := win0_4.stage (cfg0.slots t 4)
abbrev ms0_5 (t : Fin cfg0.N) : Memref sig .tc .vmem S16x2048 .fp8e4m3 := win0_5.stage (cfg0.slots t 5)
abbrev ms0_6 (t : Fin cfg0.N) : Memref sig .tc .vmem S1x16 .f32 := win0_6.stage (cfg0.slots t 6)
abbrev scM0_0 : Memref sig .tc .vmem S32x2048 .fp8e4m3 := Memref.whole cc0_scratch0
abbrev scM0_1 : Memref sig .tc .vmem S16x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The block of x, the same at every point. -/
def xin (c : Dev nD) : Vec F S16x2048 .bf16 := iblk m c 0 (⟨0, lt_of_lt_of_eq (by decide) N_0.symm⟩ : Fin cfg0.N)

theorem iblk_x (c : Dev nD) (t : Fin cfg0.N) : iblk m c 0 t = xin m c := rfl

/-- The scales' lane 0, as the body loads it. -/
def scol (x : Vec F S16x2048 .bf16) : Vec F S16x1 .f32 :=
  View.ld (Val := Elt F) (S := S16x128) (e' := .f32) (rows x) (Rect.unit (s := S16x128) ![0, 0] S16x1.size inb_S16x128_S16x1_0_0)

/-- The block of y that the body stores at point `t`. -/
def yblk (c : Dev nD) (t : Fin cfg0.N) : Vec F S16x2048 .bf16 :=
  k0_pay1 (lhs (xin m c)) (iblk m c 1 t) (scol (xin m c)) (iblk m c 2 t) (iblk m c 3 t)

/-- The invariant from point 1 on: the scratches hold the codes and the scales. -/
def PhiQ (c : Dev nD) : sProp 𝕄 :=
  iprop(iprop(owns (c : Thread nD τ) scM0_0 fullShare (lhs (xin m c)) ∗ owns (c : Thread nD τ) scM0_1 fullShare (rows (xin m c))) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yblk m c t
    | ⟨5, _⟩ => codes (xin m c)
    | ⟨6, _⟩ => sclRow (xin m c)
  Φ t := if t.val = 0 then Pipeline.ΦA spec0 c else PhiQ m c
  q _ := fullShare
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem Phi_zero (c : Dev nD) (t : Fin (cfg0.N + 1)) (h : t.val = 0) : (dats m 0 c).Φ t = Pipeline.ΦA spec0 c := by
  dsimp only [dats]; exact if_pos h
theorem Phi_pos (c : Dev nD) (t : Fin (cfg0.N + 1)) (h : t.val ≠ 0) : (dats m 0 c).Φ t = PhiQ m c := by
  dsimp only [dats]; exact if_neg h
theorem after0_4 (c : Dev nD) (t : Fin cfg0.N) : (dats m 0 c).after 4 t = yblk m c t := by dsimp only [dats]
theorem after0_5 (c : Dev nD) (t : Fin cfg0.N) : (dats m 0 c).after 5 t = codes (xin m c) := by dsimp only [dats]
theorem after0_6 (c : Dev nD) (t : Fin cfg0.N) : (dats m 0 c).after 6 t = sclRow (xin m c) := by dsimp only [dats]

/-- After point 0 the codes' window holds the codes. -/
theorem before0_5 (c : Dev nD) (t : Fin cfg0.N) (h0 : t.val % 8 ≠ 0) (d) : (dats m 0 c).before 5 t d = codes (xin m c) := by
  rw [(dats m 0 c).before_out_traj 5 rfl (fun _ _ => rfl) (fun t _ _ _ => rfl) _ t rfl d,
    isFresh t.val 5 idle0_5 flush0_5 t.isLt.le, decide_eq_false h0, if_neg Bool.false_ne_true, after0_5]
theorem before0_6 (c : Dev nD) (t : Fin cfg0.N) (h0 : t.val % 8 ≠ 0) (d) : (dats m 0 c).before 6 t d = sclRow (xin m c) := by
  rw [(dats m 0 c).before_out_traj 6 rfl (fun _ _ => rfl) (fun t _ _ _ => rfl) _ t rfl d,
    isFresh t.val 6 idle0_6 flush0_6 t.isLt.le, decide_eq_false h0, if_neg Bool.false_ne_true, after0_6]

/-- What the body leaves in the codes' window: the codes, at every point. -/
theorem leaves0_5 (c : Dev nD) (t : Fin cfg0.N) :
    owns (c : Thread nD τ) (ms0_5 t) fullShare (codes (xin m c)) ⊢ ((dats m 0 c).leavesExact 5 t : sProp 𝕄) := by
  unfold Dat.leavesExact
  rcases hi : cfg0.idle 5 (cfg0.grid.coords t) with _ | _
  · simp only [after0_5]; exact .rfl
  · rcases hf : (cfg0.win 5).flush t with _ | _
    · have h0 : t.val % 8 ≠ 0 := fun h => by
        rw [show cfg0.idle 5 (cfg0.grid.coords t) = _ from idle0_5 t, decide_eq_true ((hcond0_0 t).mpr h)] at hi; cases hi
      simp only [before0_5 m c t h0]; iintro H; iexists (fun _ => Classical.arbitrary _); iexact H
    · simp only [after0_5]; exact .rfl
theorem leaves0_6 (c : Dev nD) (t : Fin cfg0.N) :
    owns (c : Thread nD τ) (ms0_6 t) fullShare (sclRow (xin m c)) ⊢ ((dats m 0 c).leavesExact 6 t : sProp 𝕄) := by
  unfold Dat.leavesExact
  rcases hi : cfg0.idle 6 (cfg0.grid.coords t) with _ | _
  · simp only [after0_6]; exact .rfl
  · rcases hf : (cfg0.win 6).flush t with _ | _
    · have h0 : t.val % 8 ≠ 0 := fun h => by
        rw [show cfg0.idle 6 (cfg0.grid.coords t) = _ from idle0_6 t, decide_eq_true ((hcond0_0 t).mpr h)] at hi; cases hi
      simp only [before0_6 m c t h0]; iintro H; iexists (fun _ => Classical.arbitrary _); iexact H
    · simp only [after0_6]; exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point, by whether it quantises there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_pos m c t.succ (Nat.succ_ne_zero t.val),
    show (dats m 0 c).owesAt () t.succ = (dats m 0 c).owesAt () t.castSucc from rfl]
  have hN : t.val < 8 := lt_of_lt_of_eq t.isLt (show cfg0.N = 8 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [iblk_x m c t]; unfold PhiQ yblk scol
  by_cases h0 : t.val % 8 = 0
  · rw [Phi_zero m c t.castSucc (show t.val = 0 by omega), PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((run_A c (grid0.coords t) _ _ _ _ _ _ _ _ _ _ _ _ _ _ _ _ _ _ ((hcond0_0 t).mpr h0) (xin m c) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6
  · rw [Phi_pos m c t.castSucc (show t.val ≠ 0 by omega)]
    unfold PhiQ
    simp only [before0_5 m c t h0, before0_6 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((run_B c (grid0.coords t) _ _ _ _ _ _ _ _ _ _ _ _ _ _ _ _ _ _ (fun h => h0 ((hcond0_0 t).mp h)) (xin m c) (iblk m c 1 t) (iblk m c 2 t) (iblk m c 3 t) (lhs (xin m c)) (rows (xin m c))) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem Phi_in (c : Dev nD) : Pipeline.ΦA spec0 c ⊢ (dats (F := F) m 0 c).Φ 0 := by rw [Phi_zero m c 0 rfl]
theorem Phi_out (c : Dev nD) : (dats (F := F) m 0 c).Φ (Fin.last cfg0.N) ⊢ Pipeline.ΦA spec0 c := by
  rw [Phi_pos m c (Fin.last cfg0.N) (by show cfg0.N ≠ 0; rw [show cfg0.N = 8 from N_0]; decide), PhiA0_eq]
  unfold PhiQ
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The launch: every array at what the proof data says, what the host lines leave after it, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Gen

end
-- ==== Proof.Equation.lean ====
/- One row's quantisation and one block of the product, read at an index at the ideal values: the kernel's payloads
   and the reference's are the same numbers. -/
module

public import proofs.«01_k».proof.Proof.Scale
public import proofs.«01_k».proof.Proof.Body
public import proofs.«01_k».proof.Proof.Gen.ReferenceIdeal.Skeleton
public import Idealize.ShloMosaic.Lib.Pointwise

@[expose] public section

set_option maxRecDepth 16384

noncomputable section

namespace Cert.Equation

open Idealize.ShloMosaic Cert.Scale
open Cert.KernelIdeal (S16x2048 S16x1 S1x16 S2048x2048 S1x2048)

/-! ## The rows' maxima -/

/-- The greatest magnitude of each row. -/
def amax (x : FVec Ideal S16x2048 .bf16) : FVec Ideal S16x1 .f32 := Cert.KernelIdeal.Gen.k0_pay3 (F := Ideal) x

/-- The multiplier `1/448` as a float. -/
def c448 : EReal := Ideal.ofBits .f32 0x3B124925#32

/-- Each row's magnitude over 448. -/
def mag (x : FVec Ideal S16x2048 .bf16) (j : S16x1.Idx) : EReal := amax x j * c448

theorem amax_apply (x : FVec Ideal S16x2048 .bf16) (r : Fin 16) :
    amax x (ix2 r 0) = Finset.univ.fold max ⊥ fun k : Fin 2048 => max (x (ix2 r k)) (-(x (ix2 r k))) := by
  pointwise [amax, Cert.KernelIdeal.Gen.k0_pay3, Cert.KernelIdeal.Gen.k0_pay2]
  have e : Ideal.ofBits .f32 0xFF800000#32 = ⊥ := by simp [Ideal.ofBits, Ideal.ieee]
  first | rfl | (simp only [e]; done) | (rw [e]; rfl)

theorem c448_eq : ∃ c : ℝ, c448 = (c : EReal) ∧ 0 < c ∧ c < (2 : ℝ) ^ (-8 : ℤ) := by
  refine ⟨(2 ^ 23 + 0x124925 : ℝ) * (2 : ℝ) ^ (-32 : ℤ), ?_, by positivity, by norm_num⟩
  unfold c448
  simp [Ideal.ofBits, Ideal.ieee, -EReal.coe_mul]; norm_num

/-- The greatest finite bf16. -/
def big : EReal := Ideal.ofBits .f32 0x7F7F0000#32

theorem big_eq : ∃ b : ℝ, big = (b : EReal) ∧ 0 < b ∧ b < (2 : ℝ) ^ (128 : ℤ) := by
  refine ⟨(2 ^ 23 + 0x7F0000 : ℝ) * (2 : ℝ) ^ (104 : ℤ), ?_, by positivity, by norm_num⟩
  unfold big
  simp [Ideal.ofBits, Ideal.ieee, -EReal.coe_mul]; norm_num

/-- Every input is finite: of magnitude at most the greatest finite bf16. -/
def Finite (x : FVec Ideal S16x2048 .bf16) : Prop := ∀ i, max (x i) (-(x i)) ≤ big

theorem fold_max_bounds {n : ℕ} (f : Fin (n + 1) → EReal) (b : EReal) (h0 : ∀ k, 0 ≤ f k) (hb : ∀ k, f k ≤ b) :
    0 ≤ Finset.univ.fold max ⊥ f ∧ Finset.univ.fold max ⊥ f ≤ b := by
  constructor
  · rw [Finset.le_fold_max]; exact .inr ⟨0, Finset.mem_univ _, h0 0⟩
  · rw [Finset.fold_max_le]; exact ⟨bot_le, fun k _ => hb k⟩

theorem abs_nonneg' (x : EReal) : 0 ≤ max x (-x) := by
  rcases le_total 0 x with h | h
  · exact le_max_of_le_left h
  · exact le_max_of_le_right (by rwa [EReal.le_neg, neg_zero] )

/-- A finite row's magnitude is a real below `2^120`. -/
theorem mag_real {x : FVec Ideal S16x2048 .bf16} (hx : Finite x) (r : Fin 16) :
    ∃ a : ℝ, mag x (ix2 r 0) = (a : EReal) ∧ 0 ≤ a ∧ a < (2 : ℝ) ^ (120 : ℤ) ∧ (amax x (ix2 r 0) = 0 → a = 0) := by
  obtain ⟨c, hc, c0, c1⟩ := c448_eq
  obtain ⟨b, hb, b0, b1⟩ := big_eq
  have h := fold_max_bounds (fun k : Fin (2047 + 1) => max (x (ix2 r k)) (-(x (ix2 r k)))) big
    (fun k => abs_nonneg' _) (fun k => hx _)
  rw [← amax_apply x r, hb] at h
  unfold mag
  generalize amax x (ix2 r 0) = y at h
  obtain ⟨s, rfl⟩ : ∃ s : ℝ, y = (s : EReal) := by
    induction y using EReal.rec with
    | bot => exact absurd h.1 (by simp)
    | top => exact absurd h.2 (by simp)
    | coe s => exact ⟨s, rfl⟩
  have s0 : 0 ≤ s := by exact_mod_cast h.1
  have s1 : s ≤ b := by exact_mod_cast h.2
  refine ⟨s * c, by rw [hc, EReal.coe_mul], by positivity, ?_, fun hh => ?_⟩
  · have e : (2 : ℝ) ^ (120 : ℤ) = (2 : ℝ) ^ (128 : ℤ) * (2 : ℝ) ^ (-8 : ℤ) := by
      rw [← zpow_add₀ (by norm_num)]; norm_num
    rw [e]
    exact mul_lt_mul'' (s1.trans_lt b1) c1 s0 c0.le
  · have : s = 0 := by exact_mod_cast hh
    rw [this, zero_mul]

/-! ## The scales -/

section AnyFloats

variable {F : FTy → Type} [FloatOps F]

/-- `Scale.step` over any floats. -/
def stepF (a : F .f32) (n s : BitVec 32) : BitVec 32 :=
  Scalar.select (FloatOps.cmpf .oge a (FloatOps.ofBits .f32 (IntOp.shli .vector (IntOp.addi n s) 23#32))) (IntOp.addi n s) n

/-- `Scale.search5` over any floats. -/
def search5F (a : F .f32) : BitVec 32 :=
  stepF a (stepF a (stepF a (stepF a (stepF a 0#32 128#32) 64#32) 32#32) 16#32) 8#32

/-- The last three steps of `Scale.search` over any floats. -/
def search3F (a : F .f32) (n : BitVec 32) : BitVec 32 := stepF a (stepF a (stepF a n 4#32) 2#32) 1#32

/-- `Scale.kexp` over any floats, from the search's result. -/
def kexpF (x : F .f32) (n : BitVec 32) : BitVec 32 :=
  Scalar.select (FloatOps.cmpf .oeq x (FloatOps.ofBits .f32 0x00000000#32)) 0#32
    (Scalar.select (IntOp.ori (IntOp.cmpi .eq n 0#32) (IntOp.cmpi .eq n 255#32)) 0#32 (IntOp.subi n 126#32))

/-- `Scale.kpow` over any floats. -/
def kpowF (e : BitVec 32) : F .f32 :=
  FloatOps.ofBits .f32 (IntOp.shli .vector (IntOp.minsi 255#32 (IntOp.maxsi 0#32 (IntOp.addi e 127#32))) 23#32)

/-- `Scale.rexp` over any floats. -/
def rexpF (a : F .f32) : F .f32 :=
  Scalar.select (FloatOps.cmpf .olt a (FloatOps.ofBits .f32 0x00800000#32)) (FloatOps.ofBits .f32 0x00000000#32)
    (FloatOps.addf (FloatOps.floor (FloatOps.divf (FloatOps.log a) (FloatOps.log (FloatOps.ofBits .f32 0x40000000#32))))
      (FloatOps.ofBits .f32 0x3F800000#32))

variable (x : FVec F S16x2048 .bf16) (j : S16x1.Idx)

theorem pay4F : Cert.KernelIdeal.Gen.k0_pay4 x j
    = FloatOps.absf (FloatOps.mulf (Cert.KernelIdeal.Gen.k0_pay3 x j) (FloatOps.ofBits .f32 0x3B124925#32)) := rfl

theorem pay5F : Cert.KernelIdeal.Gen.k0_pay5 x j = search5F (Cert.KernelIdeal.Gen.k0_pay4 x j) := rfl

theorem pay6F (v25 v28 : FVec F S16x1 .f32) (v64 : IVec S16x1 32) :
    Cert.KernelIdeal.Gen.k0_pay6 v25 v28 v64 j = kexpF (v25 j) (search3F (v28 j) (v64 j)) := rfl

theorem pay7F (v25 v28 : FVec F S16x1 .f32) (v64 : IVec S16x1 32) :
    Cert.KernelIdeal.Gen.k0_pay7 v25 v28 v64 j = kpowF (Cert.KernelIdeal.Gen.k0_pay6 v25 v28 v64 j) := rfl

theorem rpay3F : Cert.ReferenceIdeal.Gen.k0_pay3 x j
    = rexpF (FloatOps.mulf (Cert.KernelIdeal.Gen.k0_pay3 x j) (FloatOps.ofBits .f32 0x3B124925#32)) := rfl

theorem rpay4F : Cert.ReferenceIdeal.Gen.k0_pay4 x j = FloatOps.exp2 (Cert.ReferenceIdeal.Gen.k0_pay3 x j) := rfl

end AnyFloats

theorem step_ideal (a : EReal) : stepF (F := Ideal) a = step a := rfl

theorem expo_apply (x : FVec Ideal S16x2048 .bf16) (j : S16x1.Idx) :
    Cert.KernelIdeal.Gen.expo (F := Ideal) x j = kexp (amax x j) (max (mag x j) (-(mag x j))) := by
  have h4 : Cert.KernelIdeal.Gen.k0_pay4 (F := Ideal) x j = max (mag x j) (-(mag x j)) := pay4F x j
  unfold Cert.KernelIdeal.Gen.expo
  rw [pay6F, pay5F, h4]
  unfold search3F search5F kexp search search5
  rw [step_ideal]
  rfl

theorem kpow_ideal (e : BitVec 32) : kpowF (F := Ideal) e = kpow e := rfl

theorem scl_apply (x : FVec Ideal S16x2048 .bf16) (j : S16x1.Idx) :
    Cert.KernelIdeal.Gen.scl (F := Ideal) x j = kpow (Cert.KernelIdeal.Gen.expo (F := Ideal) x j) := by
  unfold Cert.KernelIdeal.Gen.scl Cert.KernelIdeal.Gen.expo
  rw [pay7F, kpow_ideal]

theorem rexp_ideal (a : EReal) : rexpF (F := Ideal) a = rexp a := rfl

theorem rexp_apply (x : FVec Ideal S16x2048 .bf16) (j : S16x1.Idx) :
    Cert.ReferenceIdeal.Gen.k0_pay3 (F := Ideal) x j = rexp (mag x j) := by
  rw [rpay3F, rexp_ideal]; rfl

theorem rscl_apply (x : FVec Ideal S16x2048 .bf16) (j : S16x1.Idx) :
    Cert.ReferenceIdeal.Gen.k0_pay4 (F := Ideal) x j = Ideal.exp2 (Cert.ReferenceIdeal.Gen.k0_pay3 (F := Ideal) x j) :=
  rpay4F x j

/-- The two scales and the two inverse scales of a finite row agree. -/
theorem scale_row {x : FVec Ideal S16x2048 .bf16} (hx : Finite x) (r : Fin 16) :
    kpow (Cert.KernelIdeal.Gen.expo (F := Ideal) x (ix2 r 0))
        = Ideal.exp2 (Cert.ReferenceIdeal.Gen.k0_pay3 (F := Ideal) x (ix2 r 0))
      ∧ kpow (IntOp.subi 0#32 (Cert.KernelIdeal.Gen.expo (F := Ideal) x (ix2 r 0)))
        = Ideal.exp2 (0 - Cert.ReferenceIdeal.Gen.k0_pay3 (F := Ideal) x (ix2 r 0)) := by
  obtain ⟨a, ha, a0, a1, a2⟩ := mag_real hx r
  rw [expo_apply, rexp_apply, ha]
  have hm : max ((a : ℝ) : EReal) (-((a : ℝ) : EReal)) = (a : EReal) := by
    rw [← EReal.coe_neg]
    exact max_eq_left (by exact_mod_cast (by linarith : -a ≤ a))
  rw [hm]
  exact scales a2 a1

theorem scl_eq {x : FVec Ideal S16x2048 .bf16} (hx : Finite x) :
    Cert.KernelIdeal.Gen.scl (F := Ideal) x = Cert.ReferenceIdeal.Gen.k0_pay4 (F := Ideal) x := by
  funext j
  idx_vars j
  obtain rfl : j1 = 0 := Subsingleton.elim _ _
  rw [scl_apply, rscl_apply]
  exact (scale_row hx j0).1

theorem pay8_apply (v : FVec Ideal S16x2048 .f32) (e : IVec S16x1 32) (r : Fin 16) (k : Fin 2048) :
    Cert.KernelIdeal.Gen.k0_pay8 (F := Ideal) v e 0#32 (ix2 r k)
      = min (Ideal.ofBits .f32 0x43E00000#32) (max (Ideal.ofBits .f32 0xC3E00000#32)
          (v (ix2 r k) * kpow (IntOp.subi 0#32 (e (ix2 r 0))))) := by
  pointwise [Cert.KernelIdeal.Gen.k0_pay8]
  rfl

theorem codes_apply (x : FVec Ideal S16x2048 .bf16) (r : Fin 16) (k : Fin 2048) :
    Cert.KernelIdeal.Gen.codes (F := Ideal) x (ix2 r k)
      = min (Ideal.ofBits .f32 0x43E00000#32) (max (Ideal.ofBits .f32 0xC3E00000#32)
          (x (ix2 r k) * kpow (IntOp.subi 0#32 (Cert.KernelIdeal.Gen.expo (F := Ideal) x (ix2 r 0))))) := by
  unfold Cert.KernelIdeal.Gen.codes Cert.KernelIdeal.Gen.k0_pay9
  generalize Cert.KernelIdeal.Gen.expo (F := Ideal) x = e
  have h := pay8_apply (Cert.KernelIdeal.Gen.k0_pay2 (F := Ideal) x) e r k
  have h2 : Cert.KernelIdeal.Gen.k0_pay2 (F := Ideal) x (ix2 r k) = x (ix2 r k) := by
    pointwise [Cert.KernelIdeal.Gen.k0_pay2]
  rw [h2] at h
  exact h

theorem rcodes_apply (x : FVec Ideal S16x2048 .bf16) (r : Fin 16) (k : Fin 2048) :
    Cert.ReferenceIdeal.Gen.k0_pay5 (F := Ideal) x (ix2 r k)
      = min (Ideal.ofBits .f32 0x43E00000#32) (max (Ideal.ofBits .f32 0xC3E00000#32)
          (x (ix2 r k) * Ideal.exp2 (0 - Cert.ReferenceIdeal.Gen.k0_pay3 (F := Ideal) x (ix2 r 0)))) := by
  unfold Cert.ReferenceIdeal.Gen.k0_pay5
  generalize Cert.ReferenceIdeal.Gen.k0_pay3 (F := Ideal) x = e
  pointwise [Cert.ReferenceIdeal.Gen.k0_pay2]
  rfl

/-- The codes of finite rows agree. -/
theorem codes_eq {x : FVec Ideal S16x2048 .bf16} (hx : Finite x) :
    Cert.KernelIdeal.Gen.codes (F := Ideal) x = Cert.ReferenceIdeal.Gen.k0_pay5 (F := Ideal) x := by
  funext j
  idx_vars j
  rw [codes_apply, rcodes_apply, (scale_row hx j0).2]

/-! ## The scales as a row, and as the column the product reads -/

/-- The row of scales holds the scale of row `r` at lane `r`. -/
theorem sclRow_apply (x : FVec Ideal S16x2048 .bf16) (r : Fin 16) :
    Cert.KernelIdeal.Gen.sclRow (F := Ideal) x (ix2 0 r) = Cert.KernelIdeal.Gen.scl (F := Ideal) x (ix2 r 0) := by
  unfold Cert.KernelIdeal.Gen.sclRow
  generalize Cert.KernelIdeal.Gen.scl (F := Ideal) x = s
  pointwise [Cert.KernelIdeal.Gen.k0_pay12]
  rw [Finset.sum_eq_single r]
  · simp [Scalar.select, IntOp.cmpi]
  · intro k _ hk
    have e : (BitVec.ofNat 32 k.val == BitVec.ofNat 32 r.val) = false := by
      rw [beq_eq_false_iff_ne]
      intro h
      have h' := congrArg BitVec.toNat h
      simp only [BitVec.toNat_ofNat] at h'
      exact hk (Fin.ext (by omega))
    simp [Scalar.select, IntOp.cmpi, e]
  · intro h; exact absurd (Finset.mem_univ r) h

theorem sclRow_at (x : FVec Ideal S16x2048 .bf16) (j : S1x16.Idx) :
    Cert.KernelIdeal.Gen.sclRow (F := Ideal) x j
      = Cert.KernelIdeal.Gen.scl (F := Ideal) x (ix2 (j 1 : Fin 16) (0 : Fin 1)) := by
  idx_vars j
  obtain rfl : j0 = 0 := Subsingleton.elim _ _
  exact sclRow_apply x j1

theorem scol_apply (x : FVec Ideal S16x2048 .bf16) (r : Fin 16) :
    Cert.KernelIdeal.Gen.scol (F := Ideal) x (ix2 r 0) = Cert.KernelIdeal.Gen.scl (F := Ideal) x (ix2 r 0) := by
  unfold Cert.KernelIdeal.Gen.scol Cert.KernelIdeal.Gen.rows
  generalize Cert.KernelIdeal.Gen.scl (F := Ideal) x = s
  pointwise [Cert.KernelIdeal.Gen.k0_pay11]

theorem lhs_apply (x : FVec Ideal S16x2048 .bf16) (r : Fin 16) (k : Fin 2048) :
    Cert.KernelIdeal.Gen.lhs (F := Ideal) x (ix2 (⟨r.val, by omega⟩ : Fin 32) k)
      = Cert.KernelIdeal.Gen.codes (F := Ideal) x (ix2 r k) := by
  unfold Cert.KernelIdeal.Gen.lhs Cert.KernelIdeal.Gen.codes Cert.KernelIdeal.Gen.k0_pay9 Cert.KernelIdeal.Gen.k0_pay10
  generalize Cert.KernelIdeal.Gen.k0_pay8 (F := Ideal) _ _ _ = e
  pointwise

/-! ## One block of y, and the whole of it -/

theorem yblk_apply (x : FVec Ideal S16x2048 .bf16) (w : FVec Ideal S2048x2048 .fp8e4m3) (s : FVec Ideal S1x2048 .f32)
    (z : FVec Ideal S16x2048 .bf16) (r : Fin 16) (n : Fin 2048) :
    Cert.KernelIdeal.Gen.k0_pay1 (F := Ideal) (Cert.KernelIdeal.Gen.lhs (F := Ideal) x) w
        (Cert.KernelIdeal.Gen.scol (F := Ideal) x) s z (ix2 r n)
      = (∑ k : Fin 2048, Cert.KernelIdeal.Gen.codes (F := Ideal) x (ix2 r k) * w (ix2 k n))
          * Cert.KernelIdeal.Gen.scl (F := Ideal) x (ix2 r 0) * s (ix2 0 n) + z (ix2 r n) := by
  have hl := lhs_apply x r
  have hs := scol_apply x r
  generalize Cert.KernelIdeal.Gen.lhs (F := Ideal) x = l at hl ⊢
  generalize Cert.KernelIdeal.Gen.scol (F := Ideal) x = c at hs ⊢
  pointwise [Cert.KernelIdeal.Gen.k0_pay1]
  simp only [hl, hs]

theorem ry_apply (x : FVec Ideal S16x2048 .bf16) (w : FVec Ideal Cert.ReferenceIdeal.S2048x16384 .fp8e4m3)
    (s : FVec Ideal Cert.ReferenceIdeal.S1x16384 .f32) (z : FVec Ideal Cert.ReferenceIdeal.S16x16384 .bf16)
    (r : Fin 16) (n : Fin 16384) :
    Cert.ReferenceIdeal.Gen.k0_pay1 (F := Ideal) (Cert.ReferenceIdeal.Gen.k0_pay6 (F := Ideal) x w s z) (ix2 r n)
      = (∑ k : Fin 2048, Cert.ReferenceIdeal.Gen.k0_pay5 (F := Ideal) x (ix2 r k) * w (ix2 k n))
          * Cert.ReferenceIdeal.Gen.k0_pay4 (F := Ideal) x (ix2 r 0) * s (ix2 0 n) + z (ix2 r n) := by
  unfold Cert.ReferenceIdeal.Gen.k0_pay6
  generalize Cert.ReferenceIdeal.Gen.k0_pay5 (F := Ideal) x = l
  generalize Cert.ReferenceIdeal.Gen.k0_pay4 (F := Ideal) x = c
  pointwise [Cert.ReferenceIdeal.Gen.k0_pay1]

end Cert.Equation
-- ==== Proof.KernelResult.lean ====
/- What the kernel's three result arrays hold after the run, at the ideal values and for finite inputs: the
   reference's payloads of the arguments. -/
module

public import proofs.«01_k».proof.Proof.Equation
public import Idealize.ShloMosaic.Lib.Pipeline.ValueKit
public import Idealize.ShloMosaic.Lib.Claim

@[expose] public section

set_option maxRecDepth 16384

noncomputable section

namespace Cert.KernelResult

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The arguments as the region finds them -/

/-- The activations, one row each. -/
def X (c : Dev nD) : FVec Ideal S16x2048 .bf16 := shapeCast S16x2048 (m ((c : Thread nD τ).loc main_arg0)) shapeCasts_S16x1x2048_S16x2048
/-- The weight's codes. -/
def W (c : Dev nD) : FVec Ideal S2048x16384 .fp8e4m3 := m ((c : Thread nD τ).loc main_arg1)
/-- The weight's scales as a row. -/
def S (c : Dev nD) : FVec Ideal S1x16384 .f32 := shapeCast S1x16384 (m ((c : Thread nD τ).loc main_arg2)) shapeCasts_S16384_S1x16384
/-- The residual, one row each. -/
def Z (c : Dev nD) : FVec Ideal S16x16384 .bf16 := shapeCast S16x16384 (m ((c : Thread nD τ).loc main_arg3)) shapeCasts_S16x1x16384_S16x16384

theorem V_v0 (c : Dev nD) : V m c main_v0 = X m c := by
  show StableHlo.after ([hostOps0].flatten) _ _ = _
  simp only [hostOps0, List.flatten_cons, List.flatten_nil, List.append_nil]
  after_results
  rfl
theorem V_v1 (c : Dev nD) : V m c main_v1 = S m c := by
  show StableHlo.after ([hostOps0].flatten) _ _ = _
  simp only [hostOps0, List.flatten_cons, List.flatten_nil, List.append_nil]
  after_results
  rfl
theorem V_v2 (c : Dev nD) : V m c main_v2 = Z m c := by
  show StableHlo.after ([hostOps0].flatten) _ _ = _
  simp only [hostOps0, List.flatten_cons, List.flatten_nil, List.append_nil]
  after_results
  rfl

/-! ## The blocks -/

/-- Column `n` of tile `t`. -/
def col (t : Fin cfg0.N) (n : Fin 2048) : Fin 16384 :=
  ⟨t.val * 2048 + n.val, by have h : t.val < 8 := lt_of_lt_of_eq t.isLt N_0; omega⟩

/-- Where an index of each window's block lies in its array. -/
theorem idx0 (t : Fin cfg0.N) : win0_0.index t 0 = 0 ∧ win0_0.index t 1 = 0 := by
  revert t; decide +kernel
theorem emb0 (t : Fin cfg0.N) (r : Fin 16) (k : Fin 2048) : (win0_0.blk t).view.emb (ix2 r k) = ix2 r k := by
  funext a
  apply Fin.ext
  match a with
  | ⟨0, _⟩ => blk_simp; rw [(idx0 t).1]; omega
  | ⟨1, _⟩ => blk_simp; rw [(idx0 t).2]; omega
theorem idx1 (t : Fin cfg0.N) : win0_1.index t 0 = 0 ∧ win0_1.index t 1 = t.val := by
  revert t; decide +kernel
theorem emb1 (t : Fin cfg0.N) (k n : Fin 2048) : (win0_1.blk t).view.emb (ix2 k n) = ix2 k (col t n) := by
  funext a
  apply Fin.ext
  match a with
  | ⟨0, _⟩ => blk_simp; rw [(idx1 t).1]; omega
  | ⟨1, _⟩ => blk_simp; rw [(idx1 t).2]; rfl
theorem idx2 (t : Fin cfg0.N) : win0_2.index t 0 = 0 ∧ win0_2.index t 1 = t.val := by
  revert t; decide +kernel
theorem emb2 (t : Fin cfg0.N) (n : Fin 2048) : (win0_2.blk t).view.emb (ix2 (0 : Fin 1) n) = ix2 (0 : Fin 1) (col t n) := by
  funext a
  apply Fin.ext
  match a with
  | ⟨0, _⟩ => blk_simp; rw [(idx2 t).1]; omega
  | ⟨1, _⟩ => blk_simp; rw [(idx2 t).2]; rfl
theorem idx3 (t : Fin cfg0.N) : win0_3.index t 0 = 0 ∧ win0_3.index t 1 = t.val := by
  revert t; decide +kernel
theorem emb3 (t : Fin cfg0.N) (r : Fin 16) (n : Fin 2048) : (win0_3.blk t).view.emb (ix2 r n) = ix2 r (col t n) := by
  funext a
  apply Fin.ext
  match a with
  | ⟨0, _⟩ => blk_simp; rw [(idx3 t).1]; omega
  | ⟨1, _⟩ => blk_simp; rw [(idx3 t).2]; rfl
theorem idx4 (t : Fin cfg0.N) : win0_4.index t 0 = 0 ∧ win0_4.index t 1 = t.val := by
  revert t; decide +kernel
theorem emb4 (t : Fin cfg0.N) (r : Fin 16) (n : Fin 2048) : (win0_4.blk t).view.emb (ix2 r n) = ix2 r (col t n) := by
  funext a
  apply Fin.ext
  match a with
  | ⟨0, _⟩ => blk_simp; rw [(idx4 t).1]; omega
  | ⟨1, _⟩ => blk_simp; rw [(idx4 t).2]; rfl

theorem xin_eq (c : Dev nD) : xin m c = X m c := by
  funext j
  idx_vars j
  unfold xin iblk
  rw [← V_v0]
  blk_simp
  exact congrArg (V m c main_v0) (emb0 _ j0 j1)

theorem iblk1_apply (c : Dev nD) (t : Fin cfg0.N) (k n : Fin 2048) : iblk m c 1 t (ix2 k n) = W m c (ix2 k (col t n)) := by
  have h : W m c = V m c main_arg1 := (V_main_arg1 m c).symm
  rw [h]
  unfold iblk
  blk_simp
  exact congrArg (V m c main_arg1) (emb1 t k n)

theorem iblk2_apply (c : Dev nD) (t : Fin cfg0.N) (n : Fin 2048) :
    iblk m c 2 t (ix2 (0 : Fin 1) n) = S m c (ix2 (0 : Fin 1) (col t n)) := by
  rw [← V_v1]
  unfold iblk
  blk_simp
  exact congrArg (V m c main_v1) (emb2 t n)

theorem iblk3_apply (c : Dev nD) (t : Fin cfg0.N) (r : Fin 16) (n : Fin 2048) :
    iblk m c 3 t (ix2 r n) = Z m c (ix2 r (col t n)) := by
  rw [← V_v2]
  unfold iblk
  blk_simp
  exact congrArg (V m c main_v2) (emb3 t r n)

/-- A block of y is the reference's payload under the block's columns. -/
theorem yblk_eq (c : Dev nD) (hx : Equation.Finite (X m c)) (t : Fin cfg0.N) (r : Fin 16) (n : Fin 2048) :
    yblk m c t (ix2 r n)
      = Cert.ReferenceIdeal.Gen.k0_pay1 (F := Ideal)
          (Cert.ReferenceIdeal.Gen.k0_pay6 (F := Ideal) (X m c) (W m c) (S m c) (Z m c)) (ix2 r (col t n)) := by
  unfold yblk
  rw [xin_eq]
  refine (Equation.yblk_apply (X m c) (iblk m c 1 t) (iblk m c 2 t) (iblk m c 3 t) r n).trans ?_
  rw [Equation.ry_apply, Equation.codes_eq hx, Equation.scl_eq hx, iblk2_apply, iblk3_apply]
  simp only [iblk1_apply]

/-! ## The arrays -/

/-- The kernel's y is the reference's payload of the arguments. -/
theorem final4 (c : Dev nD) (hx : Equation.Finite (X m c)) :
    (dats m 0 c).arrAt 4 cfg0.N
      = Cert.ReferenceIdeal.Gen.k0_pay1 (F := Ideal) (Cert.ReferenceIdeal.Gen.k0_pay6 (F := Ideal) (X m c) (W m c) (S m c) (Z m c)) := by
  refine (dats m 0 c).arrAt_eq_of_covers 4 _ (by decide +kernel) fun t hf y => ?_
  blk_simp
  rw [after0_4]
  obtain ⟨r, n, rfl⟩ : ∃ (r : Fin 16) (n : Fin 2048), y = ix2 r n := ⟨y 0, y 1, by funext a; match a with | ⟨0, _⟩ => rfl | ⟨1, _⟩ => rfl⟩
  exact (yblk_eq m c hx t r n).trans (congrArg _ (emb4 t r n).symm)

/-- The kernel's codes are the reference's. -/
theorem final5 (c : Dev nD) (hx : Equation.Finite (X m c)) :
    (dats m 0 c).arrAt 5 cfg0.N = Cert.ReferenceIdeal.Gen.k0_pay5 (F := Ideal) (X m c) := by
  refine (dats m 0 c).arrAt_eq_of_after_last 5 ⟨7, by rw [show cfg0.N = 8 from N_0]; decide⟩ (by decide +kernel) _ fun j => ?_
  blk_simp
  refine (congrFun (after0_5 m c _) _).trans ?_
  rw [xin_eq, Equation.codes_eq hx]
  rfl

/-- The kernel's row of scales holds the reference's column of scales. -/
theorem final6 (c : Dev nD) (hx : Equation.Finite (X m c)) :
    (dats m 0 c).arrAt 6 cfg0.N
      = fun j : S1x16.Idx => Cert.ReferenceIdeal.Gen.k0_pay4 (F := Ideal) (X m c) (ix2 (j 1 : Fin 16) (0 : Fin 1)) := by
  refine (dats m 0 c).arrAt_eq_of_after_last 6 ⟨7, by rw [show cfg0.N = 8 from N_0]; decide⟩ (by decide +kernel) _ fun j => ?_
  blk_simp
  refine (congrFun (after0_6 m c _) _).trans ?_
  rw [xin_eq, ← Equation.scl_eq hx]
  have key := Equation.sclRow_at (X m c)
  generalize sclRow (F := Ideal) (X m c) = A at key ⊢
  generalize scl (F := Ideal) (X m c) = B at key ⊢
  exact key j

/-! ## The results after the host's reshapes -/

/-- y as the reference computes it. -/
def y (c : Dev nD) : FVec Ideal S16x1x16384 .bf16 :=
  shapeCast S16x1x16384 (Cert.ReferenceIdeal.Gen.k0_pay1 (F := Ideal)
    (Cert.ReferenceIdeal.Gen.k0_pay6 (F := Ideal) (X m c) (W m c) (S m c) (Z m c))) shapeCasts_S16x16384_S16x1x16384
/-- The codes as the reference computes them. -/
def xCodes (c : Dev nD) : FVec Ideal S16x1x2048 .fp8e4m3 :=
  shapeCast S16x1x2048 (Cert.ReferenceIdeal.Gen.k0_pay5 (F := Ideal) (X m c)) shapeCasts_S16x2048_S16x1x2048
/-- The shapes of the scales' column and of its reshape. -/
theorem col_casts : S16x1.ShapeCasts S16x1x1 := by decide
/-- The scales as the reference computes them. -/
def xScale (c : Dev nD) : FVec Ideal S16x1x1 .f32 :=
  shapeCast S16x1x1 (Cert.ReferenceIdeal.Gen.k0_pay4 (F := Ideal) (X m c)) col_casts

/-- The scales' row reshaped is the scales' column reshaped. -/
theorem scale_reshape (s : FVec Ideal S16x1 .f32) :
    shapeCast S16x1x1 (fun j : S1x16.Idx => s (ix2 (j 1 : Fin 16) (0 : Fin 1))) shapeCasts_S1x16_S16x1x1
      = shapeCast S16x1x1 s col_casts := by
  funext j
  idx_vars j
  pointwise

theorem tail_v4 (c : Dev nD) (hx : Equation.Finite (X m c)) :
    Pipeline.afterTail₀ cfgs (dats m) 0 (V0 m) [hostOps1] c main_v4 = y m c := by
  unfold y
  rw [← final4 m c hx]
  have h := Pipeline.withArrays_arr spec0 (by decide) c (V0 m c) (fun w => (dats m 0 c).arrAt w cfg0.N) 4
  rw [← h]
  unfold Pipeline.afterTail₀
  simp only [hostOps1, List.flatten_cons, List.flatten_nil, List.append_nil]
  after_results
  rfl
theorem tail_v5 (c : Dev nD) (hx : Equation.Finite (X m c)) :
    Pipeline.afterTail₀ cfgs (dats m) 0 (V0 m) [hostOps1] c main_v5 = xCodes m c := by
  unfold xCodes
  rw [← final5 m c hx]
  have h := Pipeline.withArrays_arr spec0 (by decide) c (V0 m c) (fun w => (dats m 0 c).arrAt w cfg0.N) 5
  rw [← h]
  unfold Pipeline.afterTail₀
  simp only [hostOps1, List.flatten_cons, List.flatten_nil, List.append_nil]
  after_results
  rfl
theorem tail_v6 (c : Dev nD) (hx : Equation.Finite (X m c)) :
    Pipeline.afterTail₀ cfgs (dats m) 0 (V0 m) [hostOps1] c main_v6 = xScale m c := by
  unfold xScale
  rw [← scale_reshape, ← final6 m c hx]
  have h := Pipeline.withArrays_arr spec0 (by decide) c (V0 m c) (fun w => (dats m 0 c).arrAt w cfg0.N) 6
  rw [← h]
  unfold Pipeline.afterTail₀
  simp only [hostOps1, List.flatten_cons, List.flatten_nil, List.append_nil]
  after_results
  rfl

/-- The kernel's run on finite inputs: its three results are the reference's, and its arguments end unchanged. -/
theorem run (hx : ∀ c, Equation.Finite (X m c)) :
    θ_run defs (onTc (τ := τ) (main (F := Ideal))) ⟨m, fun _ => 0, ρ⟩ (fun r => ∀ c : Dev nD,
      (r.2.mem ((c.tc : Thread nD τ).loc main_v4) = y m c
        ∧ r.2.mem ((c.tc : Thread nD τ).loc main_v5) = xCodes m c
        ∧ r.2.mem ((c.tc : Thread nD τ).loc main_v6) = xScale m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨⟨?_, ?_, ?_⟩, h.2.1 c⟩) (θ_run_and (run_main m ρ) (frame m ρ))
  · exact ((h.1.1 c).2 main_v4 (Pipeline.mem_restRefs_of main_v4 (by decide) (by decide))).trans (tail_v4 m c (hx c))
  · exact ((h.1.1 c).2 main_v5 (Pipeline.mem_restRefs_of main_v5 (by decide) (by decide))).trans (tail_v5 m c (hx c))
  · exact ((h.1.1 c).2 main_v6 (Pipeline.mem_restRefs_of main_v6 (by decide) (by decide))).trans (tail_v6 m c (hx c))

end Cert.KernelResult
-- ==== Proof.RefResult.lean ====
/- What the reference's three results hold after its run, at the ideal values: the payloads of its arguments. -/
module

public import proofs.«01_k».proof.Proof.Gen.ReferenceIdeal.Frame
public import Idealize.ShloMosaic.Lib.Pipeline.Value
public import Idealize.ShloMosaic.Lib.Pipeline.ValueKit
public import Idealize.ShloMosaic.Lib.Claim

@[expose] public section

set_option maxRecDepth 16384

noncomputable section

namespace Cert.RefResult

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The activations, one row each. -/
def X (c : Dev nD) : FVec Ideal S16x2048 .bf16 := shapeCast S16x2048 (m ((c : Thread nD τ).loc main_arg0)) shapeCasts_S16x1x2048_S16x2048
/-- The weight's codes. -/
def W (c : Dev nD) : FVec Ideal S2048x16384 .fp8e4m3 := m ((c : Thread nD τ).loc main_arg1)
/-- The weight's scales as a row. -/
def S (c : Dev nD) : FVec Ideal S1x16384 .f32 := shapeCast S1x16384 (m ((c : Thread nD τ).loc main_arg2)) shapeCasts_S16384_S1x16384
/-- The residual, one row each. -/
def Z (c : Dev nD) : FVec Ideal S16x16384 .bf16 := shapeCast S16x16384 (m ((c : Thread nD τ).loc main_arg3)) shapeCasts_S16x1x16384_S16x16384

theorem V_v0 (c : Dev nD) : V m c main_v0 = X m c := by
  show StableHlo.after ([hostOps0].flatten) _ _ = _
  simp only [hostOps0, List.flatten_cons, List.flatten_nil, List.append_nil]
  after_results
  rfl
theorem V_v1 (c : Dev nD) : V m c main_v1 = S m c := by
  show StableHlo.after ([hostOps0].flatten) _ _ = _
  simp only [hostOps0, List.flatten_cons, List.flatten_nil, List.append_nil]
  after_results
  rfl
theorem V_v2 (c : Dev nD) : V m c main_v2 = Z m c := by
  show StableHlo.after ([hostOps0].flatten) _ _ = _
  simp only [hostOps0, List.flatten_cons, List.flatten_nil, List.append_nil]
  after_results
  rfl

/-! ## The one block of each argument is the argument -/

theorem idx0 (t : Fin cfg0.N) : win0_0.index t 0 = 0 ∧ win0_0.index t 1 = 0 := by
  revert t; decide +kernel
theorem emb0 (t : Fin cfg0.N) (j : S16x2048.Idx) : (win0_0.blk t).view.emb j = j := by
  funext a
  apply Fin.ext
  match a with
  | ⟨0, _⟩ => blk_simp; rw [(idx0 t).1]; omega
  | ⟨1, _⟩ => blk_simp; rw [(idx0 t).2]; omega
theorem iblk0_eq (c : Dev nD) (t : Fin cfg0.N) : iblk m c 0 t = X m c := by
  refine Eq.trans ?_ (V_v0 m c)
  funext j
  unfold iblk
  blk_simp
  exact congrArg (V m c main_v0) (emb0 t j)
theorem idx1 (t : Fin cfg0.N) : win0_1.index t 0 = 0 ∧ win0_1.index t 1 = 0 := by
  revert t; decide +kernel
theorem emb1 (t : Fin cfg0.N) (j : S2048x16384.Idx) : (win0_1.blk t).view.emb j = j := by
  funext a
  apply Fin.ext
  match a with
  | ⟨0, _⟩ => blk_simp; rw [(idx1 t).1]; omega
  | ⟨1, _⟩ => blk_simp; rw [(idx1 t).2]; omega
theorem iblk1_eq (c : Dev nD) (t : Fin cfg0.N) : iblk m c 1 t = W m c := by
  refine Eq.trans ?_ (V_main_arg1 m c)
  funext j
  unfold iblk
  blk_simp
  exact congrArg (V m c main_arg1) (emb1 t j)
theorem idx2 (t : Fin cfg0.N) : win0_2.index t 0 = 0 ∧ win0_2.index t 1 = 0 := by
  revert t; decide +kernel
theorem emb2 (t : Fin cfg0.N) (j : S1x16384.Idx) : (win0_2.blk t).view.emb j = j := by
  funext a
  apply Fin.ext
  match a with
  | ⟨0, _⟩ => blk_simp; rw [(idx2 t).1]
  | ⟨1, _⟩ => blk_simp; rw [(idx2 t).2]; omega
theorem iblk2_eq (c : Dev nD) (t : Fin cfg0.N) : iblk m c 2 t = S m c := by
  refine Eq.trans ?_ (V_v1 m c)
  funext j
  unfold iblk
  blk_simp
  exact congrArg (V m c main_v1) (emb2 t j)
theorem idx3 (t : Fin cfg0.N) : win0_3.index t 0 = 0 ∧ win0_3.index t 1 = 0 := by
  revert t; decide +kernel
theorem emb3 (t : Fin cfg0.N) (j : S16x16384.Idx) : (win0_3.blk t).view.emb j = j := by
  funext a
  apply Fin.ext
  match a with
  | ⟨0, _⟩ => blk_simp; rw [(idx3 t).1]; omega
  | ⟨1, _⟩ => blk_simp; rw [(idx3 t).2]; omega
theorem iblk3_eq (c : Dev nD) (t : Fin cfg0.N) : iblk m c 3 t = Z m c := by
  refine Eq.trans ?_ (V_v2 m c)
  funext j
  unfold iblk
  blk_simp
  exact congrArg (V m c main_v2) (emb3 t j)
theorem idx4 (t : Fin cfg0.N) : win0_4.index t 0 = 0 ∧ win0_4.index t 1 = 0 := by
  revert t; decide +kernel
theorem emb4 (t : Fin cfg0.N) (j : S16x16384.Idx) : (win0_4.blk t).view.emb j = j := by
  funext a
  apply Fin.ext
  match a with
  | ⟨0, _⟩ => blk_simp; rw [(idx4 t).1]; omega
  | ⟨1, _⟩ => blk_simp; rw [(idx4 t).2]; omega
theorem idx5 (t : Fin cfg0.N) : win0_5.index t 0 = 0 ∧ win0_5.index t 1 = 0 := by
  revert t; decide +kernel
theorem emb5 (t : Fin cfg0.N) (j : S16x2048.Idx) : (win0_5.blk t).view.emb j = j := by
  funext a
  apply Fin.ext
  match a with
  | ⟨0, _⟩ => blk_simp; rw [(idx5 t).1]; omega
  | ⟨1, _⟩ => blk_simp; rw [(idx5 t).2]; omega
theorem idx6 (t : Fin cfg0.N) : win0_6.index t 0 = 0 ∧ win0_6.index t 1 = 0 := by
  revert t; decide +kernel
theorem emb6 (t : Fin cfg0.N) (j : S16x1.Idx) : (win0_6.blk t).view.emb j = j := by
  funext a
  apply Fin.ext
  match a with
  | ⟨0, _⟩ => blk_simp; rw [(idx6 t).1]; omega
  | ⟨1, _⟩ => blk_simp; rw [(idx6 t).2]

/-! ## What the body leaves -/

theorem hz2 : (![0, 0] : Fin 2 → Nat) = fun _ => 0 := funext fun a => by fin_cases a <;> rfl

theorem left4 (c : Dev nD) (t : Fin cfg0.N) : (dats m 0 c).after 4 t = k0_pay1 (F := Ideal) (k0_pay6 (F := Ideal) (X m c) (W m c) (S m c) (Z m c)) := by
  rw [after0_4]
  unfold out0_4
  rw [View.canon_unit_zero hz2, View.ld_unit_zero hz2, View.ld_unit_zero hz2, View.ld_unit_zero hz2, View.ld_unit_zero hz2]
  rw [iblk0_eq, iblk1_eq, iblk2_eq, iblk3_eq]

theorem final4 (c : Dev nD) : (dats m 0 c).arrAt 4 cfg0.N = k0_pay1 (F := Ideal) (k0_pay6 (F := Ideal) (X m c) (W m c) (S m c) (Z m c)) := by
  refine (dats m 0 c).arrAt_eq_of_covers 4 _ (by decide +kernel) fun t hf y => ?_
  blk_simp
  refine (congrFun (left4 m c t) _).trans (congrArg (k0_pay1 (F := Ideal) (k0_pay6 (F := Ideal) (X m c) (W m c) (S m c) (Z m c))) ?_)
  exact (emb4 t y).symm

theorem left5 (c : Dev nD) (t : Fin cfg0.N) : (dats m 0 c).after 5 t = k0_pay5 (F := Ideal) (X m c) := by
  rw [after0_5]
  unfold out0_5
  rw [View.canon_unit_zero hz2, View.ld_unit_zero hz2]
  rw [iblk0_eq]

theorem final5 (c : Dev nD) : (dats m 0 c).arrAt 5 cfg0.N = k0_pay5 (F := Ideal) (X m c) := by
  refine (dats m 0 c).arrAt_eq_of_covers 5 _ (by decide +kernel) fun t hf y => ?_
  blk_simp
  refine (congrFun (left5 m c t) _).trans (congrArg (k0_pay5 (F := Ideal) (X m c)) ?_)
  exact (emb5 t y).symm

theorem left6 (c : Dev nD) (t : Fin cfg0.N) : (dats m 0 c).after 6 t = k0_pay4 (F := Ideal) (X m c) := by
  rw [after0_6]
  unfold out0_6
  rw [View.canon_unit_zero hz2, View.ld_unit_zero hz2]
  rw [iblk0_eq]

theorem final6 (c : Dev nD) : (dats m 0 c).arrAt 6 cfg0.N = k0_pay4 (F := Ideal) (X m c) := by
  refine (dats m 0 c).arrAt_eq_of_covers 6 _ (by decide +kernel) fun t hf y => ?_
  blk_simp
  refine (congrFun (left6 m c t) _).trans (congrArg (k0_pay4 (F := Ideal) (X m c)) ?_)
  exact (emb6 t y).symm

/-! ## The results after the host's reshapes -/

theorem tail_v4 (c : Dev nD) :
    Pipeline.afterTail₀ cfgs (dats m) 0 (V0 m) [hostOps1] c main_v4 = shapeCast S16x1x16384 (k0_pay1 (F := Ideal) (k0_pay6 (F := Ideal) (X m c) (W m c) (S m c) (Z m c))) shapeCasts_S16x16384_S16x1x16384 := by
  rw [← final4 m c]
  have h := Pipeline.withArrays_arr spec0 (by decide) c (V0 m c) (fun w => (dats m 0 c).arrAt w cfg0.N) 4
  rw [← h]
  unfold Pipeline.afterTail₀
  simp only [hostOps1, List.flatten_cons, List.flatten_nil, List.append_nil]
  after_results
  rfl

theorem tail_v5 (c : Dev nD) :
    Pipeline.afterTail₀ cfgs (dats m) 0 (V0 m) [hostOps1] c main_v5 = shapeCast S16x1x2048 (k0_pay5 (F := Ideal) (X m c)) shapeCasts_S16x2048_S16x1x2048 := by
  rw [← final5 m c]
  have h := Pipeline.withArrays_arr spec0 (by decide) c (V0 m c) (fun w => (dats m 0 c).arrAt w cfg0.N) 5
  rw [← h]
  unfold Pipeline.afterTail₀
  simp only [hostOps1, List.flatten_cons, List.flatten_nil, List.append_nil]
  after_results
  rfl

theorem tail_v6 (c : Dev nD) :
    Pipeline.afterTail₀ cfgs (dats m) 0 (V0 m) [hostOps1] c main_v6 = shapeCast S16x1x1 (k0_pay4 (F := Ideal) (X m c)) shapeCasts_S16x1_S16x1x1 := by
  rw [← final6 m c]
  have h := Pipeline.withArrays_arr spec0 (by decide) c (V0 m c) (fun w => (dats m 0 c).arrAt w cfg0.N) 6
  rw [← h]
  unfold Pipeline.afterTail₀
  simp only [hostOps1, List.flatten_cons, List.flatten_nil, List.append_nil]
  after_results
  rfl

/-- The reference's run: its three results are its payloads of the arguments, which end unchanged. -/
theorem run :
    θ_run defs (onTc (τ := τ) (main (F := Ideal))) ⟨m, fun _ => 0, ρ⟩ (fun r => ∀ c : Dev nD,
      (r.2.mem ((c.tc : Thread nD τ).loc main_v4)
          = shapeCast S16x1x16384 (k0_pay1 (F := Ideal) (k0_pay6 (F := Ideal) (X m c) (W m c) (S m c) (Z m c))) shapeCasts_S16x16384_S16x1x16384
        ∧ r.2.mem ((c.tc : Thread nD τ).loc main_v5) = shapeCast S16x1x2048 (k0_pay5 (F := Ideal) (X m c)) shapeCasts_S16x2048_S16x1x2048
        ∧ r.2.mem ((c.tc : Thread nD τ).loc main_v6) = shapeCast S16x1x1 (k0_pay4 (F := Ideal) (X m c)) shapeCasts_S16x1_S16x1x1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨⟨?_, ?_, ?_⟩, h.2.1 c⟩) (θ_run_and (run_main m ρ) (frame m ρ))
  · exact ((h.1 c).2 main_v4 (Pipeline.mem_restRefs_of main_v4 (by decide) (by decide))).trans (tail_v4 m c)
  · exact ((h.1 c).2 main_v5 (Pipeline.mem_restRefs_of main_v5 (by decide) (by decide))).trans (tail_v5 m c)
  · exact ((h.1 c).2 main_v6 (Pipeline.mem_restRefs_of main_v6 (by decide) (by decide))).trans (tail_v6 m c)

end Cert.RefResult
-- ==== Proof.Precondition.lean ====
/- The precondition read: every element of the activations is of magnitude at most the greatest finite bf16. -/
module

public import proofs.«01_k».proof.Defs
public import proofs.«01_k».proof.Proof.KernelResult
public import proofs.«01_k».proof.Proof.Gen.Pre_finite
public import Idealize.ShloMosaic.Lib.ReduceAll

@[expose] public section

noncomputable section

namespace Cert.Precondition

open Idealize.ShloMosaic Idealize.ShloMosaic.TcCoe
open Cert.KernelIdeal

theorem elem {x : FVec Ideal S16x1x2048 .bf16} {w s z}
    (h : Cert.Pre_finite.fn (F := Ideal) x w s z = fun _ => 1#1) (i : S16x1x2048.Idx) :
    max (x i) (-(x i)) ≤ Equation.big := by
  have h0 := congrFun h (fun a => a.elim0)
  unfold Cert.Pre_finite.fn at h0
  haveI : Subsingleton Cert.Pre_finite.S_.Idx := ⟨fun a b => funext fun k => k.elim0⟩
  have h1 : BitVec.ofBool (decide (max (x i) (-(x i)) ≤ Equation.big)) = 1#1 := Host.reduce_andi_all _ _ _ _ _ h0 i
  by_contra hn
  rw [decide_eq_false hn] at h1
  exact absurd h1 (by decide)

theorem finite {m : (ℓ : Loc nD τ sig) → Buf (Elt Ideal) ℓ} (h : Cert.Pre_KernelIdeal_finite m) (c : Dev nD) :
    Equation.Finite (KernelResult.X m c) := by
  intro i
  exact elem (h c) _

end Cert.Precondition
-- ==== Proof.Same.lean ====
/- No rewrite rule applies to the kernel, so it and its idealization are printed as the same program under two names. What
   is proved of the one for every reading of the floats is proved of the other: here, the frame at the bits. -/
module

public import proofs.«01_k».proof.Defs
public import proofs.«01_k».proof.Proof.Gen.Kernel
public import proofs.«01_k».proof.Proof.Body

@[expose] public section

set_option maxRecDepth 65536

noncomputable section

namespace Cert.Same

open Idealize.ShloMosaic Idealize.ShloMosaic.TcCoe Idealize.SL.Sem

variable {F : FTy → Type} [FloatOps F]

/-- The body tables are the same: at the one label, the same body on the same operands. -/
theorem defs₀ : Cert.Kernel.defs₀ (F := F) = Cert.KernelIdeal.defs₀ (F := F) := by
  unfold Cert.Kernel.defs₀ Cert.KernelIdeal.defs₀
  congr 1
  funext l a
  match l, a with
  | ⟨0, _⟩, (_, _) => rfl

/-- So are the tables with the pipeline. -/
theorem defs : Cert.Kernel.defs (F := F) = Cert.KernelIdeal.defs (F := F) := congrArg (Pipeline.defs _) defs₀

/-- The kernel's frame. -/
theorem frame : Cert.quiescent_Kernel := fun m ρ _ => by
  rw [defs]
  exact Cert.KernelIdeal.Gen.frame (F := Bits) m ρ

end Cert.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.KernelResult
public import proofs.«01_k».proof.Proof.RefResult
public import proofs.«01_k».proof.Proof.Precondition
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- The kernel's three results are the reference's on finite activations: each program's run ends in the
    reference's payloads of its own arguments, and the arguments agree. -/
theorem algebraic : Cert.algebraic_KernelIdeal_ReferenceIdeal_pre_finite := by
  intro m g m' g' hpre hargs
  have hx := Precondition.finite hpre
  refine ⟨KernelResult.y m, KernelResult.xCodes m, KernelResult.xScale m, ?_, ?_⟩
  · exact (θ_run _ _ _).mono (fun r h c => ⟨(h c).1.1, (h c).1.2.1, (h c).1.2.2, (h c).2⟩) (KernelResult.run m g hx)
  · refine (θ_run _ _ _).mono (fun r h c => ?_) (RefResult.run m' g')
    have eX : RefResult.X m' c = KernelResult.X m c := by
      unfold RefResult.X KernelResult.X; rw [(hargs c).1]
    have eW : RefResult.W m' c = KernelResult.W m c := by
      unfold RefResult.W KernelResult.W; rw [(hargs c).2.1]
    have eS : RefResult.S m' c = KernelResult.S m c := by
      unfold RefResult.S KernelResult.S; rw [(hargs c).2.2.1]
    have eZ : RefResult.Z m' c = KernelResult.Z m c := by
      unfold RefResult.Z KernelResult.Z; rw [(hargs c).2.2.2]
    have h' := h c
    rw [eX, eW, eS, eZ] at h'
    exact ⟨h'.1.1, h'.1.2.1, h'.1.2.2, h'.2⟩

theorem claim : Cert.Claim :=
  ⟨Cert.Kernel.Gen.facts, Cert.KernelIdeal.Gen.facts, Cert.ReferenceIdeal.Gen.facts, Cert.Pre_finite.Gen.facts,
    Same.frame,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    algebraic⟩

end Cert.Proof
